-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x1024 : Shape := ⟨2, ![2, 1024]⟩
abbrev S8x2x1024 : Shape := ⟨3, ![8, 2, 1024]⟩
abbrev S8 : Shape := ⟨1, ![8]⟩
abbrev S_ : Shape := ⟨0, ![]⟩
abbrev S8x1024 : Shape := ⟨2, ![8, 1024]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x2x1024 : Shape := ⟨3, ![1, 2, 1024]⟩
abbrev S8x1x1024 : Shape := ⟨3, ![8, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .local _ .vmem, ⟨0, _⟩ => ⟨S2048x1024, .f32⟩
  | .local _ .vmem, ⟨1, _⟩ => ⟨S2x1024, .f32⟩
  | .local _ .vmem, ⟨2, _⟩ => ⟨S8x2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
@[reducible] def k0_t1_loop : Scf.Loop 32 :=
  let c0_i32_29 : BitVec 32 := 0#32
  let c256_i32 : BitVec 32 := 256#32
  let v34 : BitVec 32 := Scalar.addi c0_i32_29 c256_i32
  let c1_i32_30 : BitVec 32 := 1#32
  ⟨c0_i32_29, v34, c1_i32_30⟩
def k0_off1 (k0_t1 : Fin k0_t1_loop.trips) : Fin 2 → Nat :=
  let c0_i32_29 : BitVec 32 := 0#32
  let c1_i32_30 : BitVec 32 := 1#32
  let arg5 : BitVec 32 := Scf.iv c0_i32_29 c1_i32_30 k0_t1
  let c8_i32_213 : BitVec 32 := 8#32
  let v287 : BitVec 32 := Scalar.muli arg5 c8_i32_213
  let v288 : Index := Scalar.indexCast v287
  let c0_214 : Index := 0#32
  ![v288.toNat, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v52 : Index := Scalar.indexCast v2
  let c0 : Index := 0#32
  let c0_36 : Index := 0#32
  ![v52.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v56 : Index := Scalar.indexCast v2
  let c1 : Index := 1#32
  let c0_37 : Index := 0#32
  ![v56.toNat, 1, 0]
def k0_off4 (d0 : Dev nD) (c1_i32_39 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : BitVec 32 := Scalar.addi v2 c1_i32_39
  let c8_i32_40 : BitVec 32 := 8#32
  let v61 : BitVec 32 := Scalar.remsi v60 c8_i32_40
  ![v61.toNat]
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let c0_i32_44 : BitVec 32 := 0#32
  ![v2.toNat, 0, 0]
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v60 : BitVec 32 := Scalar.addi v2 c1_i32_39
  let c8_i32_40 : BitVec 32 := 8#32
  let v61 : BitVec 32 := Scalar.remsi v60 c8_i32_40
  let c1_i32_41 : BitVec 32 := 1#32
  let v62 : BitVec 32 := Scalar.muli v61 c1_i32_41
  let v63 : BitVec 32 := Scalar.addi c0_i32_42 v62
  v63.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_47 : BitVec 32 := 2#32
  let v72 : BitVec 32 := Scalar.addi v2 c2_i32_47
  let c8_i32_48 : BitVec 32 := 8#32
  let v73 : BitVec 32 := Scalar.remsi v72 c8_i32_48
  let c1_i32_49 : BitVec 32 := 1#32
  let v74 : BitVec 32 := Scalar.muli v73 c1_i32_49
  let v75 : BitVec 32 := Scalar.addi c0_i32_50 v74
  v75.toNat
def k0_dev10 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v84 : BitVec 32 := Scalar.addi v2 c3_i32_55
  let c8_i32_56 : BitVec 32 := 8#32
  let v85 : BitVec 32 := Scalar.remsi v84 c8_i32_56
  let c1_i32_57 : BitVec 32 := 1#32
  let v86 : BitVec 32 := Scalar.muli v85 c1_i32_57
  let v87 : BitVec 32 := Scalar.addi c0_i32_58 v86
  v87.toNat
def k0_dev11 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v96 : BitVec 32 := Scalar.addi v2 c4_i32_63
  let c8_i32_64 : BitVec 32 := 8#32
  let v97 : BitVec 32 := Scalar.remsi v96 c8_i32_64
  let c1_i32_65 : BitVec 32 := 1#32
  let v98 : BitVec 32 := Scalar.muli v97 c1_i32_65
  let v99 : BitVec 32 := Scalar.addi c0_i32_66 v98
  v99.toNat
def k0_dev12 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_71 : BitVec 32 := 5#32
  let v108 : BitVec 32 := Scalar.addi v2 c5_i32_71
  let c8_i32_72 : BitVec 32 := 8#32
  let v109 : BitVec 32 := Scalar.remsi v108 c8_i32_72
  let c1_i32_73 : BitVec 32 := 1#32
  let v110 : BitVec 32 := Scalar.muli v109 c1_i32_73
  let v111 : BitVec 32 := Scalar.addi c0_i32_74 v110
  v111.toNat
def k0_dev13 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_79 : BitVec 32 := 6#32
  let v120 : BitVec 32 := Scalar.addi v2 c6_i32_79
  let c8_i32_80 : BitVec 32 := 8#32
  let v121 : BitVec 32 := Scalar.remsi v120 c8_i32_80
  let c1_i32_81 : BitVec 32 := 1#32
  let v122 : BitVec 32 := Scalar.muli v121 c1_i32_81
  let v123 : BitVec 32 := Scalar.addi c0_i32_82 v122
  v123.toNat
def k0_dev14 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_87 : BitVec 32 := 7#32
  let v132 : BitVec 32 := Scalar.addi v2 c7_i32_87
  let c8_i32_88 : BitVec 32 := 8#32
  let v133 : BitVec 32 := Scalar.remsi v132 c8_i32_88
  let c1_i32_89 : BitVec 32 := 1#32
  let v134 : BitVec 32 := Scalar.muli v133 c1_i32_89
  let v135 : BitVec 32 := Scalar.addi c0_i32_90 v134
  v135.toNat
def k0_off7 (d0 : Dev nD) (c1_i32_95 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v144 : BitVec 32 := Scalar.addi v2 c1_i32_95
  let c8_i32_96 : BitVec 32 := 8#32
  let v145 : BitVec 32 := Scalar.remsi v144 c8_i32_96
  let c0_i32_99 : BitVec 32 := 0#32
  let c0_i32_100 : BitVec 32 := 0#32
  ![v145.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Run.Cells.lean ====
/-
# The devices, the cells and the contents of the exchange

Eight devices hold 2048 rows of `x` each. A device reduces its rows to a pair of rows (the columns' maxima, the
columns' first positions), writes the pair into slot `c` of its own gather buffer, and copies that slot into slot `c` of
the seven others' buffers. Every copy is ordered by three families of cells:

* the barrier cell of device `c`: each other device `p` signals it once; the signal hands `c` the slot `c` of `p`'s
  gather buffer;
* the receive cell `p` of device `c`: the copy from `p` raises it by the slot's credit; the landing hands `c` its slot
  `p`, holding `p`'s pair;
* the send cell `p` of device `c`: the copy to `p` raises it by the same credit; it hands back the share of slot `c`
  that was lent to the copy.

All slots are described by one contents function of the gather buffer, `gath`: entry `(p, r, j)` is row `r` of device
`p`'s pair at column `j`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.ShareLeaves
public import Idealize.ShloMosaic.Lib.ValueIdxCore
public import Idealize.ShloMosaic.Lib.Tactic

@[expose] public section

noncomputable section

namespace Cert.Exchange

open Cert.KernelIdeal Cert.KernelIdeal.Gen

open Idealize.ShloMosaic
open Idealize.ShloMosaic.ValueIdx (ix2 ix3)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the exchange's with devices naming the duties -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

set_option backward.proofsInPublic true in
/-- The device at distance `d + 1` from `c`. -/
def peer (c : Dev nD) (d : Fin 7) : Dev nD := ⟨(c.val + d.val + 1) % 8, Nat.mod_lt _ (by decide)⟩

/-- The seven other devices, in the order in which the program addresses them. -/
def peers (c : Dev nD) : List (Dev nD) := [peer c 0, peer c 1, peer c 2, peer c 3, peer c 4, peer c 5, peer c 6]

theorem peers_nodup (c : Dev nD) : (peers c).Nodup := by revert c; decide
theorem peers_toFinset (c : Dev nD) : Finset.univ.erase c = (peers c).toFinset := by revert c; decide
theorem mem_peers {c p : Dev nD} : Iff (p ∈ peers c) (p ≠ c) := by
  rw [← List.mem_toFinset, ← peers_toFinset, Finset.mem_erase]
  exact ⟨fun h => h.1, fun h => ⟨h, Finset.mem_univ _⟩⟩

/-- A family over the other devices, in the program's order. -/
theorem bigSep_peers {M : Type} [URA M] (c : Dev nD) (Φ : Dev nD → sProp M) :
    bigSep (Finset.univ.erase c) Φ = bigSepL (peers c) Φ :=
  bigSep_eq_bigSepL_of_eq (peers c) (peers_toFinset c) (peers_nodup c) Φ

theorem sum_peers {A : Type} [AddCommMonoid A] (c : Dev nD) (f : Dev nD → A) :
    ((peers c).map f).sum = ∑ p ∈ Finset.univ.erase c, f p := by
  rw [peers_toFinset, List.sum_toFinset f (peers_nodup c)]

/-! ## The memrefs and cells -/

abbrev xM : Memref sig .tc .vmem S2048x1024 .f32 := Memref.whole cc0_stg0_0
abbrev oM : Memref sig .tc .vmem S2x1024 .f32 := Memref.whole cc0_stg1_0
abbrev gM : Memref sig .tc .vmem S8x2x1024 .f32 := Memref.whole cc0_scratch0

/-- A slot of the gather buffer at offsets `off`, as the program names it. -/
abbrev slotAt (off : Fin 3 → Nat) (h : ∀ a, off a + S1x2x1024.size a ≤ S8x2x1024.size a) : Memref sig .tc .vmem S2x1024 .f32 :=
  (gM.slice (Rect.unit (s := S8x2x1024) off S1x2x1024.size h) (fun _ => rfl)).squeeze S2x1024 squeezes_S1x2x1024_S2x1024

/-- Device `c`'s slot of the gather buffer. -/
abbrev slotM (c : Dev nD) : Memref sig .tc .vmem S2x1024 .f32 := slotAt (k0_off6 c) (k0_off6_inb c)

/-- The semaphore of an array of eight at offset `off`, as the program names it. -/
abbrev semAt (A : DmaSems sig S8) (off : Fin 1 → Nat) (h : ∀ a, off a + S1.size a ≤ S8.size a) : DmaSem sig :=
  ((A.slice (Rect.unit (s := S8) off S1.size h)).squeeze S_ squeezes_S1_S_).sem

/-- The barrier semaphore, and the send and receive semaphores of peer `p`. -/
abbrev barS : Sem sig := (SemArray.scalar (sig.barrier 0 rfl) : Sems sig S_).sem
set_option backward.proofsInPublic true in
def sendS (p : Dev nD) : DmaSem sig := ⟨2 + p.val, Nat.lt_of_lt_of_le (Nat.add_lt_add_left p.isLt 2) (by decide)⟩
set_option backward.proofsInPublic true in
def recvS (p : Dev nD) : DmaSem sig := ⟨10 + p.val, Nat.lt_of_lt_of_le (Nat.add_lt_add_left p.isLt 10) (by decide)⟩

theorem semAt_send (p : Dev nD) (off : Fin 1 → Nat) (h : ∀ a, off a + S1.size a ≤ S8.size a) (e : off = ![p.val]) :
    semAt cc0_scratch1 off h = sendS p := by
  subst e; revert h; revert p; decide
theorem semAt_recv (p : Dev nD) (off : Fin 1 → Nat) (h : ∀ a, off a + S1.size a ≤ S8.size a) (e : off = ![p.val]) :
    semAt cc0_scratch2 off h = recvS p := by
  subst e; revert h; revert p; decide

abbrev barCell (c : Dev nD) : GSem nD τ sig := ((c : Thread nD τ), .reg barS)
abbrev sendCell (c p : Dev nD) : GSem nD τ sig := ((c : Thread nD τ), .dma (sendS p))
abbrev recvCell (c p : Dev nD) : GSem nD τ sig := ((c : Thread nD τ), .dma (recvS p))

/-- The credit of one slot. -/
abbrev N : ℕ := (slotM 0).view.dmaCredit
theorem N_pos : 0 < N := View.dmaCredit_pos _ (by decide)

theorem send_ne_bar (p : Dev nD) : (SemLoc.dma (sendS p) : SemLoc sig) ≠ .reg barS := fun h => by cases h
theorem recv_ne_bar (p : Dev nD) : (SemLoc.dma (recvS p) : SemLoc sig) ≠ .reg barS := fun h => by cases h
theorem send_eq_iff {p q : Dev nD} : Iff ((SemLoc.dma (sendS p) : SemLoc sig) = .dma (sendS q)) (p = q) := by
  revert p q; decide
theorem recv_eq_iff {p q : Dev nD} : Iff ((SemLoc.dma (recvS p) : SemLoc sig) = .dma (recvS q)) (p = q) := by
  revert p q; decide
theorem send_ne_recv (p q : Dev nD) : (SemLoc.dma (sendS p) : SemLoc sig) ≠ .dma (recvS q) := by
  revert p q; decide

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The eight rows of trip `k`. -/
def rowsAt (x : (cc0_stg0_0 : Ref sig .tc).ty.Contents (Elt F)) (k : Fin k0_t1_loop.trips) : Vec F S8x1024 .f32 :=
  xM.view.readAt (Elt F) (Rect.unit (s := S2048x1024) (k0_off1 k) S8x1024.size (k0_off1_inb k)).toLoadRect x

/-- The loop's carried pair before trip `k`. -/
def carried (x : (cc0_stg0_0 : Ref sig .tc).ty.Contents (Elt F)) : ℕ → FVec F S8x1024 .f32 × IVec S8x1024 32
  | 0 => (k0_pay1, k0_pay2)
  | k + 1 =>
    if h : k < k0_t1_loop.trips then
      (k0_pay5 (carried x k).1 (rowsAt x ⟨k, h⟩), k0_pay6 ⟨k, h⟩ (carried x k).1 (carried x k).2 (rowsAt x ⟨k, h⟩))
    else carried x k

theorem carried_succ (x : (cc0_stg0_0 : Ref sig .tc).ty.Contents (Elt F)) (k : Fin k0_t1_loop.trips) :
    carried x (k.val + 1)
      = (k0_pay5 (carried x k.val).1 (rowsAt x k), k0_pay6 k (carried x k.val).1 (carried x k.val).2 (rowsAt x k)) := by
  rw [carried.eq_2]; exact dif_pos k.isLt

/-- The device's number as the program computes it. -/
def devWord (c : Dev nD) : BitVec 32 := Scalar.remsi (Scalar.divsi (Dev.word c) 1#32) 8#32

/-- What device `c` writes into rows 0 and 1 of its slot. -/
def pairMax (c : Dev nD) : FVec F S1x1x1024 .f32 := k0_pay9 (carried (xstg m ρ c) k0_t1_loop.trips).1
def pairIdx (c : Dev nD) : FVec F S1x1x1024 .f32 :=
  k0_pay10 (k0_pay8 (devWord c) (carried (xstg m ρ c) k0_t1_loop.trips).1 (carried (xstg m ρ c) k0_t1_loop.trips).2)

/-- The gather buffer once every pair has arrived. -/
def gath : (cc0_scratch0 : Ref sig .tc).ty.Contents (Elt F) := fun (i : S8x2x1024.Idx) =>
  if (i 1).val = 0 then pairMax m ρ (i 0) (ix3 0 0 (i 2)) else pairIdx m ρ (i 0) (ix3 0 0 (i 2))

/-- The result: the maxima over the devices, and the least of the positions among those that attain them. -/
def gathMax : Vec F S8x1x1024 .f32 :=
  gM.view.readAt (Elt F) (Rect.unit (s := S8x2x1024) ![0, 0, 0] S8x1x1024.size inb_S8x2x1024_S8x1x1024_0_0_0).toLoadRect (gath m ρ)
def gathIdx : Vec F S8x1x1024 .f32 :=
  gM.view.readAt (Elt F) (Rect.unit (s := S8x2x1024) ![0, 1, 0] S8x1x1024.size inb_S8x2x1024_S8x1x1024_0_1_0).toLoadRect (gath m ρ)
def outMax : FVec F S1x1024 .f32 := k0_pay15 (k0_pay13 (gathMax m ρ))
def outIdx : FVec F S1x1024 .f32 := k0_pay16 (k0_pay12 (gathIdx m ρ)) (k0_pay14 (gathMax m ρ))
def outv : (cc0_stg1_0 : Ref sig .tc).ty.Contents (Elt F) := fun (i : S2x1024.Idx) =>
  if (i 0).val = 0 then outMax m ρ (ix2 0 (i 1)) else outIdx m ρ (ix2 0 (i 1))

end Cert.Exchange

end
-- ==== Proof.Run.Schedule.lean ====
/-
# What moves with each signal and each copy

Round 0 of every cell is its only round with duties, and a duty is named by the other device it concerns.

* Device `c`'s barrier cell has one duty per other device `d`, of one unit, paid by `d`'s signal. It hands `c` the slot
  `c` of `d`'s gather buffer, whatever it holds.
* Device `c`'s receive cell `p`, for `p` other than `c`, has the duty `p` of the slot's credit, paid by the landing of
  `p`'s copy. It hands `c` the slot `p` of its own buffer, holding `gath`.
* Device `c`'s send cell `p`, for `p` other than `c`, has the duty `p` of the same credit. It hands back the share of
  `c`'s own slot that the copy to `p` read.

A device's own slot is read by seven copies at once, so its full share is cut into eight leaves: the leaf `p` goes with
the copy to `p`, and the leaf `c` stays.
-/
module

public import proofs.«01_k».proof.Proof.Run.Cells
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots -/

/-- The slot of the gather buffer that an entry lies in. -/
def slotOf (i : S8x2x1024.Idx) : ℕ := (i 0).val

/-- The elements of slot `p` of a gather buffer. -/
def slotSet (p : Dev nD) : Finset (cc0_scratch0 : Ref sig .tc).ty.Idx := Finset.univ.filter fun i => slotOf i = p.val

theorem mem_slotSet {p : Dev nD} {i : S8x2x1024.Idx} : Iff (i ∈ slotSet p) (slotOf i = p.val) := by
  unfold slotSet; exact Finset.mem_filter.trans ⟨fun h => h.2, fun h => ⟨Finset.mem_univ _, h⟩⟩

theorem mem_slot_rect (p : Dev nD) (i : S8x2x1024.Idx) :
    Iff (i ∈ (Rect.unit (s := S8x2x1024) (k0_off6 p) S1x2x1024.size (k0_off6_inb p)).set) (slotOf i = p.val) := by
  rw [Rect.mem_set_unit, k0_off6_eq]
  have h1 : (i 1).val < 2 := (i 1).isLt
  have h2 : (i 2).val < 1024 := (i 2).isLt
  unfold slotOf
  constructor
  · intro h
    have h0 := (h 0).1
    have h0' : (i 0).val < p.val + 1 := (h 0).2
    have h0'' : p.val ≤ (i 0).val := h0
    omega
  · intro h a
    match a with
    | ⟨0, _⟩ => exact ⟨h.ge, by show (i 0).val < p.val + 1; omega⟩
    | ⟨1, _⟩ => exact ⟨Nat.zero_le _, by show (i 1).val < 0 + 2; omega⟩
    | ⟨2, _⟩ => exact ⟨Nat.zero_le _, by show (i 2).val < 0 + 1024; omega⟩

theorem slot_set (p : Dev nD) : (slotM p).view.set = slotSet p := by
  refine (View.set_reshape _ _).trans ((View.set_slice_whole _ _).trans ?_)
  ext i
  exact (mem_slot_rect p i).trans mem_slotSet.symm

theorem slot_disjoint (p q : Dev nD) (h : p ≠ q) : Disjoint (slotSet p) (slotSet q) :=
  Finset.disjoint_left.mpr fun i hp hq => h (Fin.ext ((mem_slotSet.mp hp).symm.trans (mem_slotSet.mp hq)))

theorem slot_cover : Finset.univ.biUnion slotSet = Finset.univ := by
  ext i
  simp only [Finset.mem_biUnion, Finset.mem_univ, true_and, iff_true]
  exact ⟨⟨slotOf i, ((show S8x2x1024.Idx from i) 0).isLt⟩, mem_slotSet.mpr rfl⟩

/-- The contents of a gather buffer. -/
abbrev GBuf (F : FTy → Type) : Type := (cc0_scratch0 : Ref sig .tc).ty.Contents (Elt F)

/-- Slot `p` of device `c`'s gather buffer, at share `q`. -/
def slotPts (c p : Dev nD) (q : PosShare TreeShare) (f : GBuf F) : sProp 𝕄 :=
  ((c : Thread nD τ).loc cc0_scratch0) ↦[slotSet p]{q} f

/-- Device `c`'s whole gather buffer, at share `q`. -/
def gathPts (c : Dev nD) (q : PosShare TreeShare) (f : GBuf F) : sProp 𝕄 :=
  ((c : Thread nD τ).loc cc0_scratch0) ↦{q} f

instance slotPts_storable (c p : Dev nD) (q) (f : GBuf F) : BI.Storable (upEmb : UEmb _ 𝕄) (slotPts c p q f) := by
  unfold slotPts; infer_instance

/-- A buffer is its eight slots. -/
theorem gathPts_slots (c : Dev nD) (q : PosShare TreeShare) (f : GBuf F) :
    (gathPts c q f : sProp 𝕄) = bigSep Finset.univ fun p : Dev nD => slotPts c p q f :=
  pointsTo_blocks (ℓ := (c : Thread nD τ).loc cc0_scratch0) slotSet slot_disjoint slot_cover f

/-- Of device `c`'s buffer, the own slot and the seven others. -/
theorem gathPts_own (c : Dev nD) (q : PosShare TreeShare) (f : GBuf F) :
    (gathPts c q f : sProp 𝕄) = iprop(slotPts c c q f ∗ bigSep (Finset.univ.erase c) fun p => slotPts c p q f) := by
  rw [gathPts_slots]; exact bigSep_univ_at _ c

/-- The share that goes with peer `p`. -/
def leafq (p : Dev nD) : PosShare TreeShare := leaf 3 fullShare p

/-- A slot held in full is held in eight leaves. -/
theorem slotPts_leaves (c p : Dev nD) (f : GBuf F) :
    (slotPts c p fullShare f : sProp 𝕄) = bigSep Finset.univ fun r : Dev nD => slotPts c p (leafq r) f :=
  pointsTo_leaves (ℓ := (c : Thread nD τ).loc cc0_scratch0) (slotSet p) f 3 fullShare

/-- Of the leaves of a slot of device `c`, the one that stays and the seven others. -/
theorem slotPts_own (c p : Dev nD) (f : GBuf F) :
    (slotPts c p fullShare f : sProp 𝕄)
      = iprop(slotPts c p (leafq c) f ∗ bigSep (Finset.univ.erase c) fun r => slotPts c p (leafq r) f) := by
  rw [slotPts_leaves]; exact bigSep_univ_at _ c

/-! ## The schedule -/

/-- What the signal from `d` hands device `c`. -/
def barPay (c d : Dev nD) : sProp 𝕄 := iprop(∃ f, slotPts d c fullShare f)
/-- What the landing of `p`'s copy hands device `c`. -/
def recvPay (c p : Dev nD) : sProp 𝕄 := slotPts c p fullShare (gath m ρ)
/-- What the copy to `p` hands back to device `c`. -/
def sendPay (c p : Dev nD) : sProp 𝕄 := slotPts c c (leafq p) (gath m ρ)

/-- The cell concerns device `d`: it is a barrier cell, or `d`'s receive or send cell. -/
abbrev Concerns (g : GSem nD τ sig) (d : Dev nD) : Prop :=
  d ≠ g.1.1 ∧ (g.2 = .reg barS ∨ g.2 = .dma (recvS d) ∨ g.2 = .dma (sendS d))

def rd : Rounds.Schedule (GSem nD τ sig) (Dev nD) 𝕄 where
  duties g r := if r = 0 ∧ g.1.2 = .tc then Finset.univ.filter (Concerns g) else ∅
  unitless _ := False
  amount g _ _ := if g.2 = .reg barS then 1 else N
  payload g _ d :=
    if g.2 = .reg barS then barPay g.1.1 d
    else if g.2 = .dma (recvS d) then recvPay m ρ g.1.1 d
    else if g.2 = .dma (sendS d) then sendPay m ρ g.1.1 d
    else iprop(emp)
  amount_pos g _ _ _ := by
    by_cases h : g.2 = .reg barS
    · rw [if_pos h]; exact Nat.one_pos
    · rw [if_neg h]; exact N_pos

instance rd_payload_storable (g : GSem nD τ sig) (r : ℕ) (d : Dev nD) :
    BI.Storable (upEmb : UEmb _ 𝕄) ((rd (F := F) m ρ).payload g r d) := by
  show BI.Storable upEmb (if g.2 = .reg barS then barPay g.1.1 d else if g.2 = .dma (recvS d) then recvPay m ρ g.1.1 d
    else if g.2 = .dma (sendS d) then sendPay m ρ g.1.1 d else iprop(emp))
  unfold barPay recvPay sendPay
  (repeat' split) <;> infer_instance

section Sched
variable (c p : Dev nD)

theorem duties_bar : (rd (F := F) m ρ).duties (barCell c) 0 = Finset.univ.erase c := by
  dsimp only [rd]
  rw [if_pos ⟨rfl, rfl⟩]
  ext d
  rw [Finset.mem_filter, Finset.mem_erase]
  exact ⟨fun h => ⟨h.2.1, Finset.mem_univ _⟩, fun h => ⟨Finset.mem_univ _, h.1, .inl rfl⟩⟩

theorem duties_send (h : p ≠ c) : (rd (F := F) m ρ).duties (sendCell c p) 0 = {p} := by
  dsimp only [rd]
  rw [if_pos ⟨rfl, rfl⟩]
  ext d
  rw [Finset.mem_filter, Finset.mem_singleton]
  constructor
  · rintro ⟨-, -, h' | h' | h'⟩
    · exact absurd h' (send_ne_bar p)
    · exact absurd h' (send_ne_recv p d)
    · exact (send_eq_iff.mp h').symm
  · rintro rfl
    exact ⟨Finset.mem_univ _, h, .inr (.inr rfl)⟩

theorem duties_recv (h : p ≠ c) : (rd (F := F) m ρ).duties (recvCell c p) 0 = {p} := by
  dsimp only [rd]
  rw [if_pos ⟨rfl, rfl⟩]
  ext d
  rw [Finset.mem_filter, Finset.mem_singleton]
  constructor
  · rintro ⟨-, -, h' | h' | h'⟩
    · exact absurd h' (recv_ne_bar p)
    · exact (recv_eq_iff.mp h').symm
    · exact absurd h'.symm (send_ne_recv d p)
  · rintro rfl
    exact ⟨Finset.mem_univ _, h, .inr (.inl rfl)⟩

theorem duties_later (g : GSem nD τ sig) : ∀ r, 1 ≤ r → (rd (F := F) m ρ).duties g r = ∅ :=
  fun r hr => by dsimp only [rd]; rw [if_neg fun h => by omega]

/-- A device's send and receive cells for itself have no duty in any round. -/
theorem duties_send_self : ∀ r, 0 ≤ r → (rd (F := F) m ρ).duties (sendCell c c) r = ∅ := fun r _ => by
  dsimp only [rd]
  split_ifs
  · refine Finset.filter_eq_empty_iff.mpr fun d _ h => ?_
    rcases h with ⟨hd, h' | h' | h'⟩
    · exact send_ne_bar c h'
    · exact send_ne_recv c d h'
    · exact hd (send_eq_iff.mp h').symm
  · rfl
theorem duties_recv_self : ∀ r, 0 ≤ r → (rd (F := F) m ρ).duties (recvCell c c) r = ∅ := fun r _ => by
  dsimp only [rd]
  split_ifs
  · refine Finset.filter_eq_empty_iff.mpr fun d _ h => ?_
    rcases h with ⟨hd, h' | h' | h'⟩
    · exact recv_ne_bar c h'
    · exact hd (recv_eq_iff.mp h').symm
    · exact send_ne_recv d c h'.symm
  · rfl

theorem amount_bar (d : Dev nD) : (rd (F := F) m ρ).amount (barCell c) 0 d = 1 := by dsimp only [rd]; exact if_pos rfl
theorem amount_send (d : Dev nD) : (rd (F := F) m ρ).amount (sendCell c p) 0 d = N := by
  dsimp only [rd]; exact if_neg (send_ne_bar p)
theorem amount_recv (d : Dev nD) : (rd (F := F) m ρ).amount (recvCell c p) 0 d = N := by
  dsimp only [rd]; exact if_neg (recv_ne_bar p)

theorem card_others : (Finset.univ.erase c : Finset (Dev nD)).card = 7 := by
  rw [Finset.card_erase_of_mem (Finset.mem_univ _), Finset.card_univ]; rfl

theorem expect_bar : (rd (F := F) m ρ).expect (barCell c) 0 = 7 := by
  unfold Schedule.expect Schedule.amountOf
  rw [duties_bar, Finset.sum_congr rfl fun d _ => amount_bar m ρ c d, Finset.sum_const, card_others, smul_eq_mul]
theorem expect_send (h : p ≠ c) : (rd (F := F) m ρ).expect (sendCell c p) 0 = N := by
  unfold Schedule.expect Schedule.amountOf; rw [duties_send m ρ c p h, Finset.sum_singleton, amount_send]
theorem expect_recv (h : p ≠ c) : (rd (F := F) m ρ).expect (recvCell c p) 0 = N := by
  unfold Schedule.expect Schedule.amountOf; rw [duties_recv m ρ c p h, Finset.sum_singleton, amount_recv]

theorem payload_bar (d : Dev nD) : (rd (F := F) m ρ).payload (barCell c) 0 d = barPay c d := by
  dsimp only [rd]; exact if_pos rfl
theorem payload_send : (rd (F := F) m ρ).payload (sendCell c p) 0 p = sendPay m ρ c p := by
  dsimp only [rd]; rw [if_neg (send_ne_bar p), if_neg (send_ne_recv p p), if_pos rfl]
theorem payload_recv : (rd (F := F) m ρ).payload (recvCell c p) 0 p = recvPay m ρ c p := by
  dsimp only [rd]; rw [if_neg (recv_ne_bar p), if_pos rfl]

/-- All that a barrier wait hands over: slot `c` of every other device's buffer. -/
theorem rest_bar : bigSep ((rd (F := F) m ρ).duties (barCell c) 0 \ ∅) (fun d => (rd (F := F) m ρ).payload (barCell c) 0 d)
    = bigSepL (peers c) fun d => barPay c d := by
  rw [Finset.sdiff_empty, duties_bar, bigSep_congr fun d _ => payload_bar m ρ c d, bigSep_peers]
theorem rest_send (h : p ≠ c) :
    bigSep ((rd (F := F) m ρ).duties (sendCell c p) 0 \ ∅) (fun d => (rd (F := F) m ρ).payload (sendCell c p) 0 d)
      = sendPay m ρ c p := by
  rw [Finset.sdiff_empty, duties_send m ρ c p h, bigSep_singleton, payload_send]
theorem rest_recv (h : p ≠ c) :
    bigSep ((rd (F := F) m ρ).duties (recvCell c p) 0 \ ∅) (fun d => (rd (F := F) m ρ).payload (recvCell c p) 0 d)
      = recvPay m ρ c p := by
  rw [Finset.sdiff_empty, duties_recv m ρ c p h, bigSep_singleton, payload_recv]

end Sched

/-! ## What a device owes, and the levels -/

/-- One unit to the barrier cells of `l`, and the slot's credit to device `c`'s receive cells on `l`. -/
def owedBar (l : List (Dev nD)) : CellTallies nD τ sig Unit := (l.map fun p => tallyAt (barCell p) () 1).sum
def owedRecv (c : Dev nD) (l : List (Dev nD)) : CellTallies nD τ sig Unit := (l.map fun p => tallyAt (recvCell p c) () N).sum
/-- What device `c` owes at launch. -/
def O₀ (c : Dev nD) : CellTallies nD τ sig Unit := owedRecv c (peers c) + owedBar (peers c)

def L (g : GSem nD τ sig) : Finset Unit := if g.1.2 = .tc then {()} else ∅

/-- The receive semaphores, by number. -/
def IsRecv (sm : SemLoc sig) : Prop := ∃ p, sm = .dma (recvS p)
instance (sm : SemLoc sig) : Decidable (IsRecv sm) := by unfold IsRecv; infer_instance

/-- Barrier cells at 1, receive cells at 2, all others at 0. -/
def lv (g : GSem nD τ sig) (_ : Unit) : ℕ := if g.2 = .reg barS then 1 else if IsRecv g.2 then 2 else 0

theorem lv_bar (c : Dev nD) (u : Unit) : lv (barCell c) u = 1 := if_pos rfl
theorem lv_recv (c p : Dev nD) (u : Unit) : lv (recvCell c p) u = 2 := by
  unfold lv; rw [if_neg (recv_ne_bar p), if_pos ⟨p, rfl⟩]

theorem L_of_ne (g : GSem nD τ sig) (h : g.1.2 ≠ .tc) : L g = ∅ := if_neg h
theorem L_tc (c : Dev nD) (sm : SemLoc sig) : L ((c : Thread nD τ), sm) = {()} := if_pos rfl

/-- A sum of tallies at one cell each is positive only at one of the cells. -/
theorem sum_tally_pos {l : List (Dev nD)} {cell : Dev nD → GSem nD τ sig} {k : ℕ} {g : GSem nD τ sig} {u : Unit}
    (h : 0 < ((l.map fun p => tallyAt (cell p) () k).sum : CellTallies nD τ sig Unit) g u) : ∃ p, g = cell p := by
  induction l with
  | nil => exact absurd h (Nat.lt_irrefl 0)
  | cons p l ih =>
    rw [List.map_cons, List.sum_cons, Pi.add_apply, Finsupp.add_apply, tallyAt_apply] at h
    by_cases hg : g = cell p ∧ u = ()
    · exact ⟨p, hg.1⟩
    · rw [if_neg hg, Nat.zero_add] at h; exact ih h

theorem owedRecv_pos {c : Dev nD} {l : List (Dev nD)} {g : GSem nD τ sig} {u : Unit} (h : 0 < owedRecv c l g u) :
    ∃ p, g = recvCell p c := sum_tally_pos (cell := fun p => recvCell p c) h
theorem owedBar_pos {l : List (Dev nD)} {g : GSem nD τ sig} {u : Unit} (h : 0 < owedBar l g u) :
    ∃ p, g = barCell p := sum_tally_pos (cell := fun p => barCell p) h

theorem O₀_pos {c : Dev nD} {g : GSem nD τ sig} {u : Unit} (h : 0 < O₀ c g u) :
    (∃ p, g = recvCell p c) ∨ ∃ p, g = barCell p := by
  unfold O₀ at h
  rw [Pi.add_apply, Finsupp.add_apply] at h
  rcases Nat.eq_zero_or_pos (owedRecv c (peers c) g u) with h0 | h0
  · rw [h0, Nat.zero_add] at h; exact .inr (owedBar_pos h)
  · exact .inl (owedRecv_pos h0)

/-- The staging waits: a device owes barrier and receive cells only, above the staging cells. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by rw [Finset.mem_singleton.mp hp]; dsimp only [lv]; rw [if_neg (fun h => by cases h), if_neg hq])
      (fun g u hg => by
        rcases O₀_pos hg with ⟨p, rfl⟩ | ⟨p, rfl⟩
        · rw [lv_recv]; decide
        · rw [lv_bar]; decide)
  · rw [MayWait_zero]; iintro -; iempintro

/-- At the barrier wait a device owes receive cells only. -/
theorem mayWait_bar (c : Dev nD) :
    (levAts L lv : sProp 𝕄) ⊢ MayWait (c : Thread nD τ) (.reg barS) () (owedRecv c (peers c)) :=
  MayOwe.of_cut (L := L) (lev := lv) 1 (fun p hp => by rw [Finset.mem_singleton.mp hp, L_tc]; exact Finset.mem_singleton_self _)
    (fun g u hg => by rcases owedRecv_pos hg with ⟨p, rfl⟩; exact Finset.mem_singleton_self _)
    (fun p hp => by rw [Finset.mem_singleton.mp hp]; exact (lv_bar c _).le)
    (fun g u hg => by rcases owedRecv_pos hg with ⟨p, rfl⟩; rw [lv_recv]; decide)

end Cert.Exchange

end
-- ==== Proof.Run.Rows.lean ====
/-
# Seven signals, seven copies, seven waits

The program repeats each of its steps on the exchange once per other device. Such a row of steps is a list of operations
run one after the other, `thenDo`, and each kind of row has one rule here, proved by induction on the list of devices it
addresses: the signals hand out slots, the copies write the peers' slots, the receive waits collect this device's slots,
the send waits collect the shares of its own.
-/
module

public import proofs.«01_k».proof.Proof.Run.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Rows of operations -/

variable (F) in
abbrev Op : Type := TpuEff nD τ sig (Elt F) Λ₀ (Proc.tc : Proc τ) PUnit
variable (F) in
abbrev Pg : Type 1 := Prog (TpuEff nD τ sig (Elt F) Λ₀ (Proc.tc : Proc τ)) PUnit

/-- The operations of `l` in order, then `k`. -/
def thenDo (l : List (Op F)) (k : Pg F) : Pg F := l.foldr (fun o k => .op o fun _ => k) k

/-- The signal to `p`; the copy to `p`; the wait for `p`'s copy; the wait for the copy to `p` to have been read. -/
abbrev sigTo (p : Dev nD) : Op F := .semSignal (Dev.tc p) barS (1#32).toInt
abbrev sendTo (c p : Dev nD) : Op F :=
  .enqueueDma (slotM c) (.remote (Dev.tc p) (slotM c) (.dma (sendS p))) (.dma (recvS c))
    ((View.wordExact_bits rfl).reshape _ _) ((View.wordExact_bits rfl).reshape _ _) ⟨⟨rfl, Or.inl rfl⟩, trivial⟩
abbrev recvFrom (p : Dev nD) : Op F :=
  .waitDma2 (recvS p) (slotM p) (slotM p) ((View.wordExact_bits rfl).reshape _ _) ((View.wordExact_bits rfl).reshape _ _)
abbrev sentTo (c p : Dev nD) : Op F :=
  .waitDma2 (sendS p) (slotM c) (slotM c) ((View.wordExact_bits rfl).reshape _ _) ((View.wordExact_bits rfl).reshape _ _)

/-! ## The cells' invariants -/

/-- A device's cells: the barrier cell, its send cells, its receive cells. -/
abbrev CK : Type := Unit ⊕ (Dev nD ⊕ Dev nD)
abbrev osem : Dev nD ⊕ Dev nD → SemLoc sig := Sum.elim (fun p => .dma (sendS p)) (fun p => .dma (recvS p))
abbrev csem : CK → SemLoc sig := Sum.elim (fun _ => .reg barS) osem
abbrev kcell (ck : Dev nD × CK) : GSem nD τ sig := ((ck.1 : Thread nD τ), csem ck.2)

/-- Every cell's invariant, under the names `K`, and that every cell has reached round 0. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

variable (K : Dev nD × CK → ℕ)

theorem inv_at (ck : Dev nD × CK) : records m ρ K ⊢ cellInv ER (rd m ρ) (K ck) (kcell ck) := by
  unfold records
  exact sep_elim_left.trans (bigSep_elim (Φ := fun ck : Dev nD × CK => (cellInv ER (rd m ρ) (K ck) (kcell ck) : sProp 𝕄)) (Finset.mem_univ ck))
theorem reached_at (ck : Dev nD × CK) : records m ρ K ⊢ reached ER (kcell ck) 0 := by
  unfold records
  exact sep_elim_right.trans (bigSep_elim (Φ := fun ck : Dev nD × CK => (reached ER (kcell ck) 0 : sProp 𝕄)) (Finset.mem_univ ck))

/-! ## The rules -/

abbrev WP (c : Dev nD) (k : Pg F) (Kt : PUnit → sProp 𝕄) : sProp 𝕄 :=
  wp frame (wpE (defs₀ (F := F)) 𝒱₀ (c : Thread nD τ) none) Set.univ k Kt

theorem owedBar_cons (p : Dev nD) (l : List (Dev nD)) : owedBar (p :: l) = owedBar l + tallyAt (barCell p) () 1 := by
  unfold owedBar; rw [List.map_cons, List.sum_cons, add_comm]
theorem owedRecv_cons (c p : Dev nD) (l : List (Dev nD)) : owedRecv c (p :: l) = owedRecv c l + tallyAt (recvCell p c) () N := by
  unfold owedRecv; rw [List.map_cons, List.sum_cons, add_comm]

/-- Signalling the devices of `l` pays the unit owed to each and hands each its slot of this device's buffer. -/
theorem wp_signals (c : Dev nD) (O : CellTallies nD τ sig Unit) (W : Waits sig Unit) (k : Pg F) (Kt : PUnit → sProp 𝕄) :
    ∀ l : List (Dev nD), (∀ p ∈ l, p ≠ c) →
      iprop(records m ρ K ∗ (bigSepL l fun p => iprop(dutyTok ER (barCell p) 0 c ∗ barPay p c)) ∗ owes (c : Thread nD τ) (O + owedBar l) W)
        ⊢ iprop((owes (c : Thread nD τ) O W -∗ WP c k Kt) -∗ WP c (thenDo (l.map sigTo) k) Kt)
  | [], _ => by
    iintro ⟨-, -, HO⟩ Hk
    iapply Hk
    rw [show O + owedBar [] = O from add_zero O]
    iexact HO
  | p :: l, hl => by
    have hp : c ∈ (rd (F := F) m ρ).duties (barCell p) 0 := by
      rw [duties_bar]; exact Finset.mem_erase.mpr ⟨(hl p List.mem_cons_self).symm, Finset.mem_univ _⟩
    rw [bigSepL_cons', owedBar_cons, ← add_assoc]
    iintro ⟨#HR, ⟨⟨Ht, Hp⟩, Hl⟩, HO⟩ Hk
    iapply (Rounds.wp_signal 𝒱₀ ER (rd m ρ) (c : Thread nD τ) none (dst := (p : Thread nD τ)) (κ := K (p, .inl ())) (d := c)
      hp ((amount_bar m ρ p c).trans (by decide)) () (O + owedBar l) rfl) $$ [HO Ht Hp]
    · isplitr; · iapply (inv_at m ρ K (p, .inl ())); iexact HR
      isplitl [HO]; · iexact HO
      isplitl [Ht]; · iexact Ht
      isplitl [Hp]; · rw [payload_bar]; iexact Hp
      iapply (reached_at m ρ K (p, .inl ())); iexact HR
    iintro HO
    iapply (wp_signals c O W k Kt l fun q hq => hl q (List.mem_cons_of_mem _ hq)) $$ [Hl HO]
    · isplitr; · iexact HR
      isplitl [Hl] <;> iassumption
    iexact Hk

/-- What a copy writes into its peer's slot is the slot of `gath`. -/
theorem gath_write (c : Dev nD) (f : GBuf F) :
    ∀ i ∈ (slotM c).view.set, (slotM c).view.write (Elt F) f ((slotM c).view.read (Elt F) (gath m ρ)) Finset.univ i = gath m ρ i := by
  intro i hi
  obtain ⟨x, -, rfl⟩ := Finset.mem_map.mp hi
  rw [View.write_emb_of_mem _ _ (Finset.mem_univ x), View.read_apply, cast_cast, cast_eq]

/-- Copying this device's slot to the devices of `l`, each copy with its leaf of the slot. -/
theorem wp_sends (c : Dev nD) (W : Waits sig Unit) (k : Pg F) (Kt : PUnit → sProp 𝕄) :
    ∀ l : List (Dev nD), (∀ p ∈ l, p ≠ c) →
      iprop(records m ρ K
          ∗ (bigSepL l fun p => iprop(sendPay m ρ c p ∗ barPay c p ∗ dutyTok ER (sendCell c p) 0 p ∗ dutyTok ER (recvCell p c) 0 c))
          ∗ owes (c : Thread nD τ) (owedRecv c l) W)
        ⊢ iprop((((bigSepL l fun p => cred (tallyAt (sendCell c p) () N)) ∗ owes (c : Thread nD τ) 0 W) -∗ WP c k Kt)
            -∗ WP c (thenDo (l.map (sendTo c)) k) Kt)
  | [], _ => by
    iintro ⟨-, -, HO⟩ Hk
    iapply Hk
    isplitr; · rw [bigSepL_nil]; iempintro
    iexact HO
  | p :: l, hl => by
    have hp : p ≠ c := hl p List.mem_cons_self
    rw [bigSepL_cons', bigSepL_cons', owedRecv_cons]
    iintro ⟨#HR, ⟨⟨Hs, Hd, Ht, Ht'⟩, Hl⟩, HO⟩ Hk
    unfold barPay sendPay slotPts
    icases Hd with ⟨%f, Hd⟩
    iapply (Rounds.wp_send_pointsTo 𝒱₀ ER (rd m ρ) (c : Thread nD τ) none (c' := (p : Thread nD τ)) (κ₁ := K (c, .inr (.inl p))) (κ₂ := K (p, .inr (.inr c)))
      (src := slotM c) (dst := slotM c) (r₁ := 0) (r₂ := 0) (d₁ := p) (d₂ := c) (fs := gath m ρ) (fd := f) (q := leafq p)
      (by rw [duties_send m ρ c p hp]; exact Finset.mem_singleton_self _)
      (by rw [duties_recv m ρ p c hp.symm]; exact Finset.mem_singleton_self _)
      () () N rfl (amount_send m ρ c p p) (amount_recv m ρ p c c) (owedRecv c l) rfl (W := W)
      (by rw [payload_send]; unfold sendPay slotPts; rw [slot_set])
      (by rw [payload_recv]; unfold recvPay slotPts; rw [← slot_set]; exact Entails.of_eq (pointsTo_congr (gath_write m ρ c f))))
      $$ [Hs Hd HO Ht Ht']
    · isplitr; · iapply (inv_at m ρ K (c, .inr (.inl p))); iexact HR
      isplitr; · iapply (inv_at m ρ K (p, .inr (.inr c))); iexact HR
      isplitl [Hs]; · rw [slot_set]; iexact Hs
      isplitl [Hd]; · rw [slot_set]; iexact Hd
      isplitl [HO]; · iexact HO
      isplitl [Ht]; · iexact Ht
      isplitr; · iapply (reached_at m ρ K (c, .inr (.inl p))); iexact HR
      isplitl [Ht']; · iexact Ht'
      iapply (reached_at m ρ K (p, .inr (.inr c))); iexact HR
    iintro ⟨Hc, HO⟩
    iapply (wp_sends c W k Kt l fun q hq => hl q (List.mem_cons_of_mem _ hq)) $$ [Hl HO]
    · isplitr; · iexact HR
      isplitl [Hl]
      · unfold barPay sendPay slotPts; iexact Hl
      iexact HO
    iintro ⟨Hcs, HO⟩
    iapply Hk
    isplitl [Hc Hcs]
    · isplitl [Hc] <;> iassumption
    iexact HO

/-- Waiting for the copies of the devices of `l`: this device's slots come back holding their pairs. -/
theorem wp_recvs (c : Dev nD) (k : Pg F) (Kt : PUnit → sProp 𝕄) :
    ∀ (l : List (Dev nD)) (W : Waits sig Unit), (∀ p ∈ l, p ≠ c) →
      iprop(records m ρ K
          ∗ (bigSepL l fun p => iprop(cred (tallyAt (recvCell c p) () N) ∗ atPos ER (recvCell c p) 0 ∅ 0))
          ∗ owes (c : Thread nD τ) 0 W)
        ⊢ iprop((((bigSepL l fun p => iprop(recvPay m ρ c p ∗ atPos ER (recvCell c p) (0 + 1) ∅ 0)) ∗ ∃ W', owes (c : Thread nD τ) 0 W')
              -∗ WP c k Kt)
            -∗ WP c (thenDo (l.map recvFrom) k) Kt)
  | [], W, _ => by
    iintro ⟨-, -, HO⟩ Hk
    iapply Hk
    isplitr; · rw [bigSepL_nil]; iempintro
    iexists W; iexact HO
  | p :: l, W, hl => by
    have hp : p ≠ c := hl p List.mem_cons_self
    rw [bigSepL_cons', bigSepL_cons']
    iintro ⟨#HR, ⟨⟨Hc, Ha⟩, Hl⟩, HO⟩ Hk
    iapply (Rounds.wp_wait_rest_token 𝒱₀ ER (rd m ρ) (c : Thread nD τ) none (κ := K (c, .inr (.inr p)))
      (wpE_waitDma2_eq 𝒱₀ (c : Thread nD τ) none Set.univ) (Set.mem_univ _) () (O := 0) (W := W) (R := 0) (m := 0) (T := ∅)
      (by rw [Nat.zero_add, expect_recv m ρ c p hp])) $$ [Hc HO Ha]
    · isplitr; · iapply (inv_at m ρ K (c, .inr (.inr p))); iexact HR
      isplitl [Hc]; · iexact Hc
      isplitl [HO]; · iexact HO
      isplitr; · rw [MayWait_zero]; iempintro
      iexact Ha
    iintro ⟨HO, Ha, -, Hpay⟩
    ihave Hp := (Entails.of_eq (rest_recv m ρ c p hp)) $$ Hpay
    iapply (wp_recvs c k Kt l _ fun q hq => hl q (List.mem_cons_of_mem _ hq)) $$ [Hl HO]
    · isplitr; · iexact HR
      isplitl [Hl] <;> iassumption
    iintro ⟨Hl, HO⟩
    iapply Hk
    isplitl [Ha Hp Hl]
    · isplitl [Ha Hp]
      · isplitl [Hp] <;> iassumption
      iexact Hl
    iexact HO

/-- Waiting for the copies to the devices of `l` to have been read: the shares of this device's slot come back. -/
theorem wp_sents (c : Dev nD) (k : Pg F) (Kt : PUnit → sProp 𝕄) :
    ∀ (l : List (Dev nD)) (W : Waits sig Unit), (∀ p ∈ l, p ≠ c) →
      iprop(records m ρ K
          ∗ (bigSepL l fun p => iprop(cred (tallyAt (sendCell c p) () N) ∗ atPos ER (sendCell c p) 0 ∅ 0))
          ∗ owes (c : Thread nD τ) 0 W)
        ⊢ iprop((((bigSepL l fun p => iprop(sendPay m ρ c p ∗ atPos ER (sendCell c p) (0 + 1) ∅ 0)) ∗ ∃ W', owes (c : Thread nD τ) 0 W')
              -∗ WP c k Kt)
            -∗ WP c (thenDo (l.map (sentTo c)) k) Kt)
  | [], W, _ => by
    iintro ⟨-, -, HO⟩ Hk
    iapply Hk
    isplitr; · rw [bigSepL_nil]; iempintro
    iexists W; iexact HO
  | p :: l, W, hl => by
    have hp : p ≠ c := hl p List.mem_cons_self
    rw [bigSepL_cons', bigSepL_cons']
    iintro ⟨#HR, ⟨⟨Hc, Ha⟩, Hl⟩, HO⟩ Hk
    iapply (Rounds.wp_wait_rest_token 𝒱₀ ER (rd m ρ) (c : Thread nD τ) none (κ := K (c, .inr (.inl p)))
      (wpE_waitDma2_eq 𝒱₀ (c : Thread nD τ) none Set.univ) (Set.mem_univ _) () (O := 0) (W := W) (R := 0) (m := 0) (T := ∅)
      (by rw [Nat.zero_add, expect_send m ρ c p hp])) $$ [Hc HO Ha]
    · isplitr; · iapply (inv_at m ρ K (c, .inr (.inl p))); iexact HR
      isplitl [Hc]; · iexact Hc
      isplitl [HO]; · iexact HO
      isplitr; · rw [MayWait_zero]; iempintro
      iexact Ha
    iintro ⟨HO, Ha, -, Hpay⟩
    ihave Hp := (Entails.of_eq (rest_send m ρ c p hp)) $$ Hpay
    iapply (wp_sents c k Kt l _ fun q hq => hl q (List.mem_cons_of_mem _ hq)) $$ [Hl HO]
    · isplitr; · iexact HR
      isplitl [Hl] <;> iassumption
    iintro ⟨Hl, HO⟩
    iapply Hk
    isplitl [Ha Hp Hl]
    · isplitl [Ha Hp]
      · isplitl [Hp] <;> iassumption
      iexact Hl
    iexact HO

end Cert.Exchange

end
-- ==== Proof.Run.Program.lean ====
/-
# The program as rows of operations

`flat c` is the text of the program on device `c` in order: the seven signals, the loop over the device's block, the two
stores into its slot, the wait for the seven signals, the seven copies, the seven waits for copies, the reduction over the
devices with its two stores, the seven waits for its copies to have been read. `body_flat` is that the printed program is
it. The rows as printed name devices, semaphores and slots by computed offsets; `sigs_eq`, `sends_eq`, `recvs_eq` and
`sents_eq` give those offsets' values.
-/
module

public import proofs.«01_k».proof.Proof.Run.Rows
public import Idealize.ShloMosaic.Lib.Scf

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operations as printed -/

abbrev sigOp (n : Dev nD) : Op F := .semSignal (Dev.tc n) barS (1#32).toInt
abbrev sendOp (c n : Dev nD) (off : Fin 1 → Nat) (h : ∀ a, off a + S1.size a ≤ S8.size a) : Op F :=
  .enqueueDma (slotM c) (.remote (Dev.tc n) (slotM c) (.dma (semAt cc0_scratch1 off h)))
    (.dma (semAt cc0_scratch2 (k0_off5 c) (k0_off5_inb c)))
    ((View.wordExact_bits rfl).reshape _ _) ((View.wordExact_bits rfl).reshape _ _) ⟨⟨rfl, Or.inl rfl⟩, trivial⟩
abbrev recvOp (off : Fin 1 → Nat) (h : ∀ a, off a + S1.size a ≤ S8.size a) (off' : Fin 3 → Nat)
    (h' : ∀ a, off' a + S1x2x1024.size a ≤ S8x2x1024.size a) : Op F :=
  .waitDma2 (semAt cc0_scratch2 off h) (slotAt off' h') (slotAt off' h')
    ((View.wordExact_bits rfl).reshape _ _) ((View.wordExact_bits rfl).reshape _ _)
abbrev sentOp (c : Dev nD) (off : Fin 1 → Nat) (h : ∀ a, off a + S1.size a ≤ S8.size a) : Op F :=
  .waitDma2 (semAt cc0_scratch1 off h) (slotM c) (slotM c)
    ((View.wordExact_bits rfl).reshape _ _) ((View.wordExact_bits rfl).reshape _ _)

theorem sendOp_eq (c n p : Dev nD) (off : Fin 1 → Nat) (h : ∀ a, off a + S1.size a ≤ S8.size a) (hn : n = p) (ho : off = ![p.val]) :
    (sendOp c n off h : Op F) = sendTo c p := by
  subst hn
  unfold sendOp sendTo
  simp only [semAt_send n off h ho, semAt_recv c (k0_off5 c) (k0_off5_inb c) (k0_off5_eq c)]
theorem recvOp_eq (p : Dev nD) (off : Fin 1 → Nat) (h : ∀ a, off a + S1.size a ≤ S8.size a) (off' : Fin 3 → Nat)
    (h' : ∀ a, off' a + S1x2x1024.size a ≤ S8x2x1024.size a) (ho : off = ![p.val]) (ho' : off' = k0_off6 p) :
    (recvOp off h off' h' : Op F) = recvFrom p := by
  subst ho'
  unfold recvOp recvFrom
  rw [semAt_recv p off h ho]
theorem sentOp_eq (c p : Dev nD) (off : Fin 1 → Nat) (h : ∀ a, off a + S1.size a ≤ S8.size a) (ho : off = ![p.val]) :
    (sentOp c off h : Op F) = sentTo c p := by
  unfold sentOp sentTo
  rw [semAt_send p off h ho]

/-! ## The rows as printed -/

def sigs (c : Dev nD) : List (Op F) :=
  [sigOp ⟨k0_dev1 c, k0_dev1_lt c⟩,
   sigOp ⟨k0_dev2 c, k0_dev2_lt c⟩,
   sigOp ⟨k0_dev3 c, k0_dev3_lt c⟩,
   sigOp ⟨k0_dev4 c, k0_dev4_lt c⟩,
   sigOp ⟨k0_dev5 c, k0_dev5_lt c⟩,
   sigOp ⟨k0_dev6 c, k0_dev6_lt c⟩,
   sigOp ⟨k0_dev7 c, k0_dev7_lt c⟩]
def sends (c : Dev nD) : List (Op F) :=
  [sendOp c ⟨k0_dev8 c, k0_dev8_lt c⟩ (k0_off4 c 1#32) (k0_off4_inb c 0),
   sendOp c ⟨k0_dev9 c, k0_dev9_lt c⟩ (k0_off4 c 2#32) (k0_off4_inb c 1),
   sendOp c ⟨k0_dev10 c, k0_dev10_lt c⟩ (k0_off4 c 3#32) (k0_off4_inb c 2),
   sendOp c ⟨k0_dev11 c, k0_dev11_lt c⟩ (k0_off4 c 4#32) (k0_off4_inb c 3),
   sendOp c ⟨k0_dev12 c, k0_dev12_lt c⟩ (k0_off4 c 5#32) (k0_off4_inb c 4),
   sendOp c ⟨k0_dev13 c, k0_dev13_lt c⟩ (k0_off4 c 6#32) (k0_off4_inb c 5),
   sendOp c ⟨k0_dev14 c, k0_dev14_lt c⟩ (k0_off4 c 7#32) (k0_off4_inb c 6)]
def recvs (c : Dev nD) : List (Op F) :=
  [recvOp (k0_off4 c 1#32) (k0_off4_inb c 0) (k0_off7 c 1#32) (k0_off7_inb c 0),
   recvOp (k0_off4 c 2#32) (k0_off4_inb c 1) (k0_off7 c 2#32) (k0_off7_inb c 1),
   recvOp (k0_off4 c 3#32) (k0_off4_inb c 2) (k0_off7 c 3#32) (k0_off7_inb c 2),
   recvOp (k0_off4 c 4#32) (k0_off4_inb c 3) (k0_off7 c 4#32) (k0_off7_inb c 3),
   recvOp (k0_off4 c 5#32) (k0_off4_inb c 4) (k0_off7 c 5#32) (k0_off7_inb c 4),
   recvOp (k0_off4 c 6#32) (k0_off4_inb c 5) (k0_off7 c 6#32) (k0_off7_inb c 5),
   recvOp (k0_off4 c 7#32) (k0_off4_inb c 6) (k0_off7 c 7#32) (k0_off7_inb c 6)]
def sents (c : Dev nD) : List (Op F) :=
  [sentOp c (k0_off4 c 1#32) (k0_off4_inb c 0),
   sentOp c (k0_off4 c 2#32) (k0_off4_inb c 1),
   sentOp c (k0_off4 c 3#32) (k0_off4_inb c 2),
   sentOp c (k0_off4 c 4#32) (k0_off4_inb c 3),
   sentOp c (k0_off4 c 5#32) (k0_off4_inb c 4),
   sentOp c (k0_off4 c 6#32) (k0_off4_inb c 5),
   sentOp c (k0_off4 c 7#32) (k0_off4_inb c 6)]

theorem off4_peer (c : Dev nD) (r : Fin 7) : k0_off4 c (BitVec.ofNat 32 (1 + r.val)) = ![(peer c r).val] := by
  rw [k0_off4_eq, show (peer c r).val = (c.val + r.val + 1) % 8 from rfl]
theorem off7_peer (c : Dev nD) (r : Fin 7) : k0_off7 c (BitVec.ofNat 32 (1 + r.val)) = k0_off6 (peer c r) := by
  rw [k0_off7_eq, k0_off6_eq, show (peer c r).val = (c.val + r.val + 1) % 8 from rfl]

theorem row7 {A : Type} {a₀ a₁ a₂ a₃ a₄ a₅ a₆ b₀ b₁ b₂ b₃ b₄ b₅ b₆ : A} (h₀ : a₀ = b₀) (h₁ : a₁ = b₁) (h₂ : a₂ = b₂) (h₃ : a₃ = b₃)
    (h₄ : a₄ = b₄) (h₅ : a₅ = b₅) (h₆ : a₆ = b₆) : [a₀, a₁, a₂, a₃, a₄, a₅, a₆] = [b₀, b₁, b₂, b₃, b₄, b₅, b₆] := by
  subst h₀ h₁ h₂ h₃ h₄ h₅ h₆; rfl

theorem sigs_eq (c : Dev nD) : (sigs c : List (Op F)) = (peers c).map sigTo := by
  unfold sigs peers
  simp only [List.map_cons, List.map_nil, k0_dev1_eq, k0_dev2_eq, k0_dev3_eq, k0_dev4_eq, k0_dev5_eq, k0_dev6_eq, k0_dev7_eq]
  rfl
theorem sends_eq (c : Dev nD) : (sends c : List (Op F)) = (peers c).map (sendTo c) := row7
    (sendOp_eq c _ (peer c 0) _ _ (Fin.ext (k0_dev8_eq c)) (off4_peer c 0))
    (sendOp_eq c _ (peer c 1) _ _ (Fin.ext (k0_dev9_eq c)) (off4_peer c 1))
    (sendOp_eq c _ (peer c 2) _ _ (Fin.ext (k0_dev10_eq c)) (off4_peer c 2))
    (sendOp_eq c _ (peer c 3) _ _ (Fin.ext (k0_dev11_eq c)) (off4_peer c 3))
    (sendOp_eq c _ (peer c 4) _ _ (Fin.ext (k0_dev12_eq c)) (off4_peer c 4))
    (sendOp_eq c _ (peer c 5) _ _ (Fin.ext (k0_dev13_eq c)) (off4_peer c 5))
    (sendOp_eq c _ (peer c 6) _ _ (Fin.ext (k0_dev14_eq c)) (off4_peer c 6))
theorem recvs_eq (c : Dev nD) : (recvs c : List (Op F)) = (peers c).map recvFrom := row7
    (recvOp_eq (peer c 0) _ _ _ _ (off4_peer c 0) (off7_peer c 0))
    (recvOp_eq (peer c 1) _ _ _ _ (off4_peer c 1) (off7_peer c 1))
    (recvOp_eq (peer c 2) _ _ _ _ (off4_peer c 2) (off7_peer c 2))
    (recvOp_eq (peer c 3) _ _ _ _ (off4_peer c 3) (off7_peer c 3))
    (recvOp_eq (peer c 4) _ _ _ _ (off4_peer c 4) (off7_peer c 4))
    (recvOp_eq (peer c 5) _ _ _ _ (off4_peer c 5) (off7_peer c 5))
    (recvOp_eq (peer c 6) _ _ _ _ (off4_peer c 6) (off7_peer c 6))
theorem sents_eq (c : Dev nD) : (sents c : List (Op F)) = (peers c).map (sentTo c) := row7
    (sentOp_eq c (peer c 0) _ _ (off4_peer c 0))
    (sentOp_eq c (peer c 1) _ _ (off4_peer c 1))
    (sentOp_eq c (peer c 2) _ _ (off4_peer c 2))
    (sentOp_eq c (peer c 3) _ _ (off4_peer c 3))
    (sentOp_eq c (peer c 4) _ _ (off4_peer c 4))
    (sentOp_eq c (peer c 5) _ _ (off4_peer c 5))
    (sentOp_eq c (peer c 6) _ _ (off4_peer c 6))

/-! ## The whole text -/

abbrev Acc (F : FTy → Type) : Type := FVec F S8x1024 .f32 × IVec S8x1024 32

/-- A trip of the loop: eight rows of the block are read and the pair updated. -/
def trip (k : Fin k0_t1_loop.trips) (a : Acc F) : Prog (TpuEff nD τ sig (Elt F) Λ₀ (Proc.tc : Proc τ)) (Acc F) :=
  .op (.load xM (Rect.unit (s := S2048x1024) (k0_off1 k) S8x1024.size (k0_off1_inb k)).toLoadRect (View.loadsAt_vmem h_S8x1024))
    fun v => .ret (k0_pay5 a.1 v, k0_pay6 k a.1 a.2 v)

/-- The regions the program loads and stores: rows 0 and 1 of its slot, the maxima and the positions of the whole gather
buffer, rows 0 and 1 of the output. -/
abbrev slot0 (c : Dev nD) : Rect S8x2x1024 := Rect.unit (k0_off2 c) S1x1x1024.size (k0_off2_inb c)
abbrev slot1 (c : Dev nD) : Rect S8x2x1024 := Rect.unit (k0_off3 c) S1x1x1024.size (k0_off3_inb c)
abbrev all0 : Rect S8x2x1024 := Rect.unit ![0, 0, 0] S8x1x1024.size inb_S8x2x1024_S8x1x1024_0_0_0
abbrev all1 : Rect S8x2x1024 := Rect.unit ![0, 1, 0] S8x1x1024.size inb_S8x2x1024_S8x1x1024_0_1_0
abbrev out0 : Rect S2x1024 := Rect.unit ![0, 0] S1x1024.size inb_S2x1024_S1x1024_0_0
abbrev out1 : Rect S2x1024 := Rect.unit ![1, 0] S1x1024.size inb_S2x1024_S1x1024_1_0

/-- The reduction over the devices and its two stores, then the last waits. -/
def closing (c : Dev nD) : Pg F :=
  .op (.load gM all0.toLoadRect (View.loadsAt_vmem h_S8x1x1024)) fun (u : Vec F S8x1x1024 .f32) =>
  .op (.load gM all1.toLoadRect (View.loadsAt_vmem h_S8x1x1024)) fun (v : Vec F S8x1x1024 .f32) =>
  .op (.load oM out0.toLoadRect (View.loadsAt_vmem h_S1x1024)) fun _ =>
  .op (.store oM out0 (k0_pay15 (k0_pay13 u)) Finset.univ (View.stores_vmem_bits_univ h_S1x1024 rfl) (.inl rfl)) fun _ =>
  .op (.load oM out1.toLoadRect (View.loadsAt_vmem h_S1x1024)) fun _ =>
  .op (.store oM out1 (k0_pay16 (k0_pay12 v) (k0_pay14 u)) Finset.univ (View.stores_vmem_bits_univ h_S1x1024 rfl) (.inl rfl)) fun _ =>
  thenDo (sents c) (.ret ⟨⟩)

/-- The two stores into this device's slot, the wait for the signals, the copies and the waits for copies. -/
def exchange (c : Dev nD) (a : Acc F) : Pg F :=
  .op (.load gM (slot0 c).toLoadRect (View.loadsAt_vmem h_S1x1x1024)) fun _ =>
  .op (.store gM (slot0 c) (k0_pay9 a.1) Finset.univ (View.stores_vmem_bits_univ h_S1x1x1024 rfl) (.inl rfl)) fun _ =>
  .op (.load gM (slot1 c).toLoadRect (View.loadsAt_vmem h_S1x1x1024)) fun _ =>
  .op (.store gM (slot1 c) (k0_pay10 (k0_pay8 (devWord c) a.1 a.2)) Finset.univ (View.stores_vmem_bits_univ h_S1x1x1024 rfl) (.inl rfl)) fun _ =>
  .op (.semWait barS (7#32).toInt) fun _ =>
  thenDo (sends c) (thenDo (recvs c) (closing c))

def flat (c : Dev nD) : Pg F :=
  thenDo (sigs c) (Scf.for k0_t1_loop.lb k0_t1_loop.ub k0_t1_loop.st k0_t1_ok (k0_pay1 (F := F), k0_pay2) trip >>= exchange c)

set_option maxHeartbeats 400000 in
theorem body_flat (c : Dev nD) (Kt : PUnit → sProp 𝕄) :
    wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2) Kt
      = WP c (flat c) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId, Scf.Loop.for, bind_assoc]
  simp only [flat, thenDo, sigs, exchange, closing, sends, recvs, sents, List.foldr]
  rfl

end Cert.Exchange

end
-- ==== Proof.Run.Stores.lean ====
/-
# The stores

The program stores rows: rows 0 and 1 of its slot of the gather buffer, rows 0 and 1 of the output. A row stored is read
back as the stored row, and the other rows stay; so after its two stores the slot holds what `gath` holds there, and the
output holds `outv`.
-/
module

public import proofs.«01_k».proof.Proof.Run.Program
public import Idealize.ShloMosaic.Lib.Pipeline.ValueKit.Geometry
public import Idealize.ShloMosaic.Lib.Writes

@[expose] public section

noncomputable section

namespace Cert.Exchange

open Cert.KernelIdeal Cert.KernelIdeal.Gen

open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A store through a view, read at the place of the payload's entry `x`. -/
theorem write_at {κ : Kind} {sp : Space} {s : Shape} {e : EltTy} (v : View sig κ sp s e) (f : v.ty.Contents (Elt F)) (w : s.Idx → Elt F e)
    (x : s.Idx) (i : v.ty.Idx) (h : v.emb x = i) :
    v.write (Elt F) f w Finset.univ i = cast (congrArg (Elt F) v.elt_eq.symm) (w x) := by
  subst h; exact View.write_emb_of_mem f w (Finset.mem_univ x)

/-- A row of a slot: the entries with the two leading coordinates given. -/
theorem mem_row (off : Fin 3 → Nat) (h : ∀ a, off a + S1x1x1024.size a ≤ S8x2x1024.size a) (p r : ℕ) (ho : off = ![p, r, 0])
    (i : S8x2x1024.Idx) : Iff (i ∈ (Rect.unit (s := S8x2x1024) off S1x1x1024.size h).set) ((i 0).val = p ∧ (i 1).val = r) := by
  rw [Rect.mem_set_unit]
  subst ho
  have h2 : (i 2).val < 1024 := (i 2).isLt
  constructor
  · intro h
    have a0 : p ≤ (i 0).val := (h 0).1
    have a0' : (i 0).val < p + 1 := (h 0).2
    have a1 : r ≤ (i 1).val := (h 1).1
    have a1' : (i 1).val < r + 1 := (h 1).2
    exact ⟨by omega, by omega⟩
  · rintro ⟨e0, e1⟩ a
    match a with
    | ⟨0, _⟩ => exact ⟨e0.ge, by show (i 0).val < p + 1; omega⟩
    | ⟨1, _⟩ => exact ⟨e1.ge, by show (i 1).val < r + 1; omega⟩
    | ⟨2, _⟩ => exact ⟨Nat.zero_le _, by show (i 2).val < 0 + 1024; omega⟩

/-- A store of one row of a slot. -/
theorem row_store (off : Fin 3 → Nat) (h : ∀ a, off a + S1x1x1024.size a ≤ S8x2x1024.size a) (p r : ℕ) (ho : off = ![p, r, 0])
    (f : GBuf F) (w : FVec F S1x1x1024 .f32) (i : S8x2x1024.Idx) (hp : (i 0).val = p) :
    (gM.access (Rect.unit (s := S8x2x1024) off S1x1x1024.size h)).write (Elt F) f w Finset.univ i
      = if (i 1).val = r then w (ix3 0 0 (i 2)) else f i := by
  by_cases hr : (i 1).val = r
  · rw [if_pos hr]
    have e : (gM.access (Rect.unit (s := S8x2x1024) off S1x1x1024.size h)).emb (ix3 0 0 (i 2)) = i := by
      refine Rect.emb_eq_of_coords _ _ _ fun a => ?_
      subst ho
      match a with
      | ⟨0, _⟩ => exact hp
      | ⟨1, _⟩ => exact hr
      | ⟨2, _⟩ => show (i 2).val = 0 + 1 * (i 2).val; omega
    exact write_at (gM.access (Rect.unit (s := S8x2x1024) off S1x1x1024.size h)) f w (ix3 0 0 (i 2)) i e
  · rw [if_neg hr]
    refine View.write_of_not_mem _ _ _ fun hm => hr ?_
    rw [View.setOn_univ] at hm
    exact ((mem_row off h p r ho i).mp ((View.set_slice_whole cc0_scratch0 _) ▸ hm)).2

/-- The rows the program stores lie in its slot. -/
theorem row_slot (c : Dev nD) (off : Fin 3 → Nat) (h : ∀ a, off a + S1x1x1024.size a ≤ S8x2x1024.size a) (r : ℕ) (ho : off = ![c.val, r, 0]) :
    (gM.access (Rect.unit (s := S8x2x1024) off S1x1x1024.size h)).set ⊆ slotSet c := fun i hi =>
  mem_slotSet.mpr ((mem_row off h c.val r ho i).mp ((View.set_slice_whole cc0_scratch0 _) ▸ hi)).1

/-- After the two stores the slot holds the device's pair. -/
theorem slot_stored (c : Dev nD) (f : GBuf F) :
    ∀ i ∈ slotSet c, (gM.access (slot1 c)).write (Elt F) ((gM.access (slot0 c)).write (Elt F) f (pairMax m ρ c) Finset.univ)
      (pairIdx m ρ c) Finset.univ i = gath m ρ i := by
  intro (i : S8x2x1024.Idx) hi
  have h0 : (i 0).val = c.val := mem_slotSet.mp hi
  have h1 : (i 1).val < 2 := (i 1).isLt
  have hc : i 0 = c := Fin.ext h0
  rw [row_store _ _ c.val 1 (k0_off3_eq c) _ _ i h0, row_store _ _ c.val 0 (k0_off2_eq c) _ _ i h0]
  unfold gath
  rw [hc]
  by_cases e : (i 1).val = 0
  · rw [if_neg (by omega), if_pos e, if_pos e]
  · rw [if_pos (by omega), if_neg e]

/-- A store of one row of the output. -/
theorem out_store (off : Fin 2 → Nat) (h : ∀ a, off a + S1x1024.size a ≤ S2x1024.size a) (r : ℕ) (ho : off = ![r, 0])
    (f : (cc0_stg1_0 : Ref sig .tc).ty.Contents (Elt F)) (w : FVec F S1x1024 .f32) (i : S2x1024.Idx) :
    (oM.access (Rect.unit (s := S2x1024) off S1x1024.size h)).write (Elt F) f w Finset.univ i
      = if (i 0).val = r then w (ix2 0 (i 1)) else f i := by
  subst ho
  by_cases hr : (i 0).val = r
  · rw [if_pos hr]
    have e : (oM.access (Rect.unit (s := S2x1024) ![r, 0] S1x1024.size h)).emb (ix2 0 (i 1)) = i := by
      refine Rect.emb_eq_of_coords _ _ _ fun a => ?_
      match a with
      | ⟨0, _⟩ => exact hr
      | ⟨1, _⟩ => show (i 1).val = 0 + 1 * (i 1).val; omega
    exact write_at (oM.access (Rect.unit (s := S2x1024) ![r, 0] S1x1024.size h)) f w (ix2 0 (i 1)) i e
  · rw [if_neg hr]
    refine View.write_of_not_mem _ _ _ fun hm => hr ?_
    rw [View.setOn_univ] at hm
    have hm' : i ∈ (Rect.unit (s := S2x1024) ![r, 0] S1x1024.size h).set := (View.set_slice_whole cc0_stg1_0 _) ▸ hm
    have a := (Rect.mem_set_unit.mp hm') 0
    have a0 : r ≤ (i 0).val := a.1
    have a1 : (i 0).val < r + 1 := a.2
    omega

/-- After the two stores the output holds the result. -/
theorem out_stored (f : (cc0_stg1_0 : Ref sig .tc).ty.Contents (Elt F)) :
    (oM.access out1).write (Elt F) ((oM.access out0).write (Elt F) f (outMax m ρ) Finset.univ) (outIdx m ρ) Finset.univ
      = outv m ρ := by
  funext (i : S2x1024.Idx)
  have h1 : (i 0).val < 2 := (i 0).isLt
  rw [out_store _ _ 1 rfl, out_store _ _ 0 rfl]
  unfold outv
  by_cases e : (i 0).val = 0
  · rw [if_neg (by omega), if_pos e, if_pos e]
  · rw [if_pos (by omega), if_neg e]

end Cert.Exchange

end
-- ==== Proof.Run.Parts.lean ====
/-
# One device's run

From its ghost state, its two windows and its gather buffer with arbitrary contents, device `c` runs its text: it gives
away its seven foreign slots with the signals, reduces its block, stores its pair into its own slot, takes a slot on each
other device from the barrier, copies its slot into each of them (one leaf of the slot's share per copy), gets its own
seven foreign slots back filled, reads the whole buffer at the leaf that stayed, writes the result, and takes the seven
leaves back. Then it holds the whole buffer again, and every semaphore at zero.
-/
module

public import proofs.«01_k».proof.Proof.Run.Stores

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device starts from and ends with -/

/-- The other devices. -/
abbrev others (c : Dev nD) : Finset (Dev nD) := Finset.univ.erase c

/-- Device `c`'s positions on its own cells. -/
def places (c : Dev nD) : sProp 𝕄 :=
  iprop(atPos ER (barCell c) 0 ∅ 0 ∗ (bigSep Finset.univ fun p => atPos ER (sendCell c p) 0 ∅ 0)
    ∗ bigSep Finset.univ fun p => atPos ER (recvCell c p) 0 ∅ 0)
/-- The tokens of the duties that device `c` pays: a unit at every other barrier cell, its copies' two ends. -/
def payToks (c : Dev nD) : sProp 𝕄 :=
  iprop((bigSep (others c) fun p => dutyTok ER (barCell p) 0 c) ∗ (bigSep (others c) fun p => dutyTok ER (sendCell c p) 0 p)
    ∗ bigSep (others c) fun p => dutyTok ER (recvCell p c) 0 c)
def ghost (c : Dev nD) : sProp 𝕄 := iprop(records m ρ K ∗ places c ∗ payToks c)

/-- The credits of device `c`'s waits: its barrier's seven units, a slot from every other device. -/
def waitCreds (c : Dev nD) : sProp 𝕄 :=
  iprop(cred (tallyAt (barCell c) () 7) ∗ bigSep (others c) fun p => cred (tallyAt (recvCell c p) () N))

def start (c : Dev nD) : sProp 𝕄 := iprop((∃ K, ghost m ρ K c) ∗ waitCreds c ∗ levAts L lv)

def Φ₀ (c : Dev nD) : sProp 𝕄 := iprop(start m ρ c ∗ ∃ f, gathPts c fullShare f)
/-- All of device `c`'s semaphores at zero. -/
def zeros (c : Dev nD) : sProp 𝕄 :=
  iprop((bigSep Finset.univ fun p => semVal (sendCell c p) 0) ∗ (bigSep Finset.univ fun p => semVal (recvCell c p) 0) ∗ semVal (barCell c) 0)
def Φ₁ (c : Dev nD) : sProp 𝕄 := iprop(gathPts c fullShare (gath m ρ) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outv m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Families over the other devices -/

theorem zip2 (c : Dev nD) (Φ Ψ : Dev nD → sProp 𝕄) :
    iprop(bigSep (others c) Φ ∗ bigSep (others c) Ψ) ⊢ bigSepL (peers c) fun p => iprop(Φ p ∗ Ψ p) :=
  Entails.of_eq ((bigSep_sep' _ Φ Ψ).symm.trans (bigSep_peers c _))
theorem unzip2 (c : Dev nD) (Φ Ψ : Dev nD → sProp 𝕄) :
    (bigSepL (peers c) fun p => iprop(Φ p ∗ Ψ p)) ⊢ iprop(bigSep (others c) Φ ∗ bigSep (others c) Ψ) :=
  Entails.of_eq ((bigSep_peers c _).symm.trans (bigSep_sep' _ Φ Ψ))

/-- Closing the cells of one kind on device `c`: their counters stand at zero. -/
theorem close_all (c : Dev nD) (k : Dev nD → CK) (R : ℕ) (s : Finset (Dev nD))
    (h : ∀ p ∈ s, ∀ r, R ≤ r → (rd (F := F) m ρ).duties (kcell (c, k p)) r = ∅) :
    iprop(records m ρ K ∗ bigSep s fun p => atPos ER (kcell (c, k p)) R ∅ 0)
      ⊢ iprop(|={Set.univ}=> bigSep s fun p => semVal (kcell (c, k p)) 0) := by
  induction s using Finset.induction_on with
  | empty =>
    iintro -
    imodintro
    rw [bigSep_empty]; iempintro
  | insert p s hp ih =>
    rw [show (bigSep (insert p s) fun p => (atPos ER (kcell (c, k p)) R ∅ 0 : sProp 𝕄))
        = iprop(atPos ER (kcell (c, k p)) R ∅ 0 ∗ bigSep s fun p => atPos ER (kcell (c, k p)) R ∅ 0) from bigSep_insert hp,
      show (bigSep (insert p s) fun p => (semVal (kcell (c, k p)) 0 : sProp 𝕄))
        = iprop(semVal (kcell (c, k p)) 0 ∗ bigSep s fun p => semVal (kcell (c, k p)) 0) from bigSep_insert hp]
    iintro ⟨#HR, ⟨Ha, Hs⟩⟩
    imod (Rounds.cell_close ER (rd m ρ) (Set.mem_univ (K (c, k p))) (fun h => h) (R := R) (h p (Finset.mem_insert_self p s))) $$ [Ha] with Hz
    · isplitr; · iapply (inv_at m ρ K (c, k p)); iexact HR
      iexact Ha
    imod (ih fun q hq => h q (Finset.mem_insert_of_mem hq)) $$ [Hs] with Hzs
    · isplitr; · iexact HR
      iexact Hs
    imodintro
    isplitl [Hz] <;> iassumption

/-! ## The run -/

abbrev xPts (c : Dev nD) : sProp 𝕄 := (xM.view.loc (c : Thread nD τ)) ↦{fullShare} (xstg m ρ c)

/-- The loop over the block leaves the carried pair after the last trip. -/
theorem wp_local (c : Dev nD) (kk : Acc F → Pg F) (Kt : PUnit → sProp 𝕄) :
    xPts m ρ c ⊢ iprop((xPts m ρ c -∗ WP c (kk (carried (xstg m ρ c) k0_t1_loop.trips)) Kt)
      -∗ WP c (Scf.for k0_t1_loop.lb k0_t1_loop.ub k0_t1_loop.st k0_t1_ok (k0_pay1 (F := F), k0_pay2) trip >>= kk) Kt) := by
  have hstep (k : Fin k0_t1_loop.trips) (acc : Acc F) : iprop(xPts m ρ c ∗ ⌜acc = carried (xstg m ρ c) k.val⌝)
      ⊢ wp frame (wpE (defs₀ (F := F)) 𝒱₀ (c : Thread nD τ) none) Set.univ (trip k acc)
        (fun acc => iprop(xPts m ρ c ∗ ⌜acc = carried (xstg m ρ c) (k.val + 1)⌝)) := by
    unfold trip
    iintro ⟨Hx, %hacc⟩
    iapply (wp_load 𝒱₀ (c : Thread nD τ) none Set.univ (m := xM) (Finset.subset_univ _)) $$ Hx; iintro Hx
    rw [wp_ret]; imodintro
    isplitl [Hx]; · iexact Hx
    ipureintro
    rw [carried_succ, hacc]; rfl
  iintro Hx Hk
  iapply (Scf.wp_for_bind frame (wpE (defs₀ (F := F)) 𝒱₀ (c : Thread nD τ) none) Set.univ k0_t1_loop.lb k0_t1_loop.ub k0_t1_loop.st k0_t1_ok
    (k0_pay1 (F := F), k0_pay2) trip (fun k acc => iprop(xPts m ρ c ∗ ⌜acc = carried (xstg m ρ c) k⌝)) hstep) $$ [Hx]
  · isplitl [Hx]; · iexact Hx
    ipureintro; rfl
  iintro %acc ⟨Hx, %hacc⟩
  subst hacc
  iapply Hk
  iexact Hx

def bodyPre (c : Dev nD) : sProp 𝕄 :=
  iprop((ghost m ρ K c ∗ waitCreds c ∗ levAts L lv ∗ ∃ f, gathPts c fullShare f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outv m ρ))

/-- The closing part, from the buffer held whole at the leaf that stayed: the result is written. -/
theorem wp_closing (c : Dev nD) (g : (cc0_stg1_0 : Ref sig .tc).ty.Contents (Elt F)) (Kt : PUnit → sProp 𝕄) :
    iprop(gathPts c (leafq c) (gath m ρ) ∗ ((oM.view.loc (c : Thread nD τ)) ↦{fullShare} g))
      ⊢ iprop(((gathPts c (leafq c) (gath m ρ) ∗ ((oM.view.loc (c : Thread nD τ)) ↦{fullShare} (outv m ρ)))
          -∗ WP c (thenDo ((peers c).map (sentTo c)) (.ret ⟨⟩)) Kt) -∗ WP c (closing c) Kt) := by
  unfold closing gathPts
  rw [sents_eq]
  iintro ⟨Hg, Ho⟩ Hk
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := out0) (Mk := Finset.univ) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := out1) (Mk := Finset.univ) (Finset.subset_univ _)) $$ Ho; iintro Ho
  iapply Hk
  isplitl [Hg]; · iexact Hg
  rw [← out_stored m ρ g]
  iexact Ho

/-- The two stores into the own slot. -/
theorem wp_pair (c : Dev nD) (f : GBuf F) (k : Pg F) (Kt : PUnit → sProp 𝕄) :
    slotPts c c fullShare f
      ⊢ iprop((slotPts c c fullShare (gath m ρ) -∗ WP c k Kt)
        -∗ WP c (.op (.load gM (slot0 c).toLoadRect (View.loadsAt_vmem h_S1x1x1024)) fun _ =>
            .op (.store gM (slot0 c) (pairMax m ρ c) Finset.univ (View.stores_vmem_bits_univ h_S1x1x1024 rfl) (.inl rfl)) fun _ =>
            .op (.load gM (slot1 c).toLoadRect (View.loadsAt_vmem h_S1x1x1024)) fun _ =>
            .op (.store gM (slot1 c) (pairIdx m ρ c) Finset.univ (View.stores_vmem_bits_univ h_S1x1x1024 rfl) (.inl rfl)) fun _ => k) Kt) := by
  unfold slotPts
  iintro Hs Hk
  iapply (wp_load_rect 𝒱₀ (c : Thread nD τ) none Set.univ (m := gM) (r := slot0 c) (row_slot c _ _ 0 (k0_off2_eq c))) $$ Hs; iintro Hs
  iapply (wp_store 𝒱₀ (c : Thread nD τ) none Set.univ (m := gM) (r := slot0 c) (Mk := Finset.univ) (row_slot c _ _ 0 (k0_off2_eq c))) $$ Hs; iintro Hs
  iapply (wp_load_rect 𝒱₀ (c : Thread nD τ) none Set.univ (m := gM) (r := slot1 c) (row_slot c _ _ 1 (k0_off3_eq c))) $$ Hs; iintro Hs
  iapply (wp_store 𝒱₀ (c : Thread nD τ) none Set.univ (m := gM) (r := slot1 c) (Mk := Finset.univ) (row_slot c _ _ 1 (k0_off3_eq c))) $$ Hs; iintro Hs
  iapply Hk
  iapply (Entails.of_eq (pointsTo_congr (ℓ := (c : Thread nD τ).loc cc0_scratch0) (q := fullShare) (slot_stored m ρ c f)))
  iexact Hs

end Cert.Exchange

end
-- ==== Proof.Run.Body.lean ====
/-
# The body of the launch

The parts of the run put together, and the obligation of the launch on device `c`.
-/
module

public import proofs.«01_k».proof.Proof.Run.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

theorem not_self {c p : Dev nD} (h : p ∈ peers c) : p ≠ c := mem_peers.mp h

/-- A slot received is its leaf `c` and the seven other leaves; so are all of them. -/
theorem recv_leaves (c : Dev nD) :
    (bigSep (others c) fun p => recvPay m ρ c p)
      = iprop((bigSep (others c) fun p => slotPts c p (leafq c) (gath m ρ))
          ∗ bigSep (others c) fun p => bigSep (others c) fun r => slotPts c p (leafq r) (gath m ρ)) := by
  rw [← bigSep_sep']
  exact bigSep_congr fun p _ => slotPts_own c p (gath m ρ)

/-- A slot with whatever contents may be given away. -/
theorem give_slot (c p : Dev nD) (f : GBuf F) : (slotPts c p fullShare f : sProp 𝕄) ⊢ (barPay p c : sProp 𝕄) := by
  unfold barPay; iintro H; iexists f; iexact H
theorem give_slots (c : Dev nD) (f : GBuf F) :
    (bigSep (others c) fun p => (slotPts c p fullShare f : sProp 𝕄)) ⊢ bigSep (others c) fun p => (barPay p c : sProp 𝕄) :=
  bigSep_mono fun p _ => give_slot c p f

set_option maxHeartbeats 1600000 in
theorem sound_body (c : Dev nD) (Kt : PUnit → sProp 𝕄) :
    iprop(bodyPre m ρ K c ∗ (bodyPost m ρ c -∗ Kt ⟨⟩)) ⊢ WP c (flat c) Kt := by
  unfold flat bodyPre ghost places payToks waitCreds
  rw [sigs_eq]
  iintro ⟨⟨⟨⟨#HR, ⟨HatB, HatS, HatV⟩, HtB, HtS, HtV⟩, ⟨HcB, HcV⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedRecv c (peers c) + owedBar (peers c) from rfl]
  -- the signals give the seven other slots away
  ihave Hs := (Entails.of_eq (gathPts_own c fullShare f0)) $$ Hscr
  icases Hs with ⟨Hown, Hoth⟩
  ihave Hoth := (give_slots c f0) $$ Hoth
  ihave Hsig := (zip2 c (fun p => dutyTok ER (barCell p) 0 c) (fun p => barPay p c)) $$ [HtB Hoth]
  · isplitl [HtB] <;> iassumption
  iapply (wp_signals m ρ K c (owedRecv c (peers c)) W _ _ (peers c) fun p h => not_self h) $$ [Hsig HO]
  · isplitr; · iexact HR
    isplitl [Hsig] <;> iassumption
  iintro HO
  -- the local reduction and the pair
  iapply (wp_local m ρ c) $$ Hx
  iintro Hx
  unfold exchange
  iapply (wp_pair m ρ c f0) $$ Hown
  iintro Hown
  -- a slot on every other device
  iapply (Rounds.wp_wait_rest_token 𝒱₀ ER (rd m ρ) (c : Thread nD τ) none (κ := K (c, .inl ()))
      (wpE_semWait_eq 𝒱₀ (c : Thread nD τ) none Set.univ) (Set.mem_univ _) () (O := owedRecv c (peers c)) (W := W) (R := 0) (m := 0) (T := ∅)
      (by rw [expect_bar]; decide)) $$ [HcB HO HatB]
  · isplitr; · iapply (inv_at m ρ K (c, .inl ())); iexact HR
    isplitl [HcB]; · iexact HcB
    isplitl [HO]; · iexact HO
    isplitr; · iapply (mayWait_bar c); iexact Hlev
    iexact HatB
  iintro ⟨HO, HatB, -, Hpay⟩
  ihave Hp := (Entails.of_eq ((rest_bar m ρ c).trans (bigSep_peers c _).symm)) $$ Hpay
  -- the copies
  ihave Hl := (Entails.of_eq (slotPts_own c c (gath m ρ))) $$ Hown
  icases Hl with ⟨Hkeep, Hleaves⟩
  ihave H1 := (Entails.of_eq (bigSep_sep' (others c) (fun p => dutyTok ER (sendCell c p) 0 p) (fun p => dutyTok ER (recvCell p c) 0 c)).symm) $$ [HtS HtV]
  · isplitl [HtS] <;> iassumption
  ihave H2 := (Entails.of_eq (bigSep_sep' (others c) (fun p => barPay c p) (fun p => iprop(dutyTok ER (sendCell c p) 0 p ∗ dutyTok ER (recvCell p c) 0 c))).symm) $$ [Hp H1]
  · isplitl [Hp] <;> iassumption
  ihave H3 := (zip2 c (fun p => sendPay m ρ c p) (fun p => iprop(barPay c p ∗ dutyTok ER (sendCell c p) 0 p ∗ dutyTok ER (recvCell p c) 0 c))) $$ [Hleaves H2]
  · isplitl [Hleaves]
    · unfold sendPay; iexact Hleaves
    iexact H2
  rw [sends_eq, recvs_eq]
  iapply (wp_sends m ρ K c _ _ _ (peers c) fun p h => not_self h) $$ [H3 HO]
  · isplitr; · iexact HR
    isplitl [H3] <;> iassumption
  iintro ⟨HcS, HO⟩
  -- the copies received
  ihave HatV' := (Entails.of_eq (bigSep_univ_at (fun p => atPos ER (recvCell c p) 0 ∅ 0) c)) $$ HatV
  icases HatV' with ⟨HatVc, HatV⟩
  ihave H4 := (zip2 c (fun p => cred (tallyAt (recvCell c p) () N)) (fun p => atPos ER (recvCell c p) 0 ∅ 0)) $$ [HcV HatV]
  · isplitl [HcV] <;> iassumption
  iapply (wp_recvs m ρ K c _ _ (peers c) _ fun p h => not_self h) $$ [H4 HO]
  · isplitr; · iexact HR
    isplitl [H4] <;> iassumption
  iintro ⟨H5, ⟨%W1, HO⟩⟩
  ihave H5 := (unzip2 c (fun p => recvPay m ρ c p) (fun p => atPos ER (recvCell c p) (0 + 1) ∅ 0)) $$ H5
  icases H5 with ⟨Hrecv, HatV⟩
  ihave Hrecv := (Entails.of_eq (recv_leaves m ρ c)) $$ Hrecv
  icases Hrecv with ⟨Hmine, Hrest⟩
  -- the reduction over the devices
  ihave Hg := (Entails.of_eq (gathPts_own c (leafq c) (gath m ρ)).symm) $$ [Hkeep Hmine]
  · isplitl [Hkeep] <;> iassumption
  iapply (wp_closing m ρ c g1) $$ [Hg Hout]
  · isplitl [Hg] <;> iassumption
  iintro ⟨Hg, Hout⟩
  -- the leaves of the own slot back
  ihave HatS' := (Entails.of_eq (bigSep_univ_at (fun p => atPos ER (sendCell c p) 0 ∅ 0) c)) $$ HatS
  icases HatS' with ⟨HatSc, HatS⟩
  ihave HcS := (Entails.of_eq (bigSep_peers c (fun p => cred (tallyAt (sendCell c p) () N))).symm) $$ HcS
  ihave H6 := (zip2 c (fun p => cred (tallyAt (sendCell c p) () N)) (fun p => atPos ER (sendCell c p) 0 ∅ 0)) $$ [HcS HatS]
  · isplitl [HcS] <;> iassumption
  iapply (wp_sents m ρ K c _ _ (peers c) _ fun p h => not_self h) $$ [H6 HO]
  · isplitr; · iexact HR
    isplitl [H6] <;> iassumption
  iintro ⟨H7, ⟨%W2, HO⟩⟩
  ihave H7 := (unzip2 c (fun p => sendPay m ρ c p) (fun p => atPos ER (sendCell c p) (0 + 1) ∅ 0)) $$ H7
  icases H7 with ⟨Hleaves, HatS⟩
  -- the whole buffer again
  ihave Hs := (Entails.of_eq (gathPts_own c (leafq c) (gath m ρ))) $$ Hg
  icases Hs with ⟨Hkeep, Hmine⟩
  ihave Hown := (Entails.of_eq (slotPts_own c c (gath m ρ)).symm) $$ [Hkeep Hleaves]
  · isplitl [Hkeep]; · iexact Hkeep
    unfold sendPay; iexact Hleaves
  ihave Hrecv := (Entails.of_eq (recv_leaves m ρ c).symm) $$ [Hmine Hrest]
  · isplitl [Hmine] <;> iassumption
  ihave Hg := (Entails.of_eq (gathPts_own c fullShare (gath m ρ)).symm) $$ [Hown Hrecv]
  · isplitl [Hown]; · iexact Hown
    unfold recvPay; iexact Hrecv
  -- every cell closes
  unfold WP
  rw [wp_ret]
  imod (Rounds.cell_close ER (rd m ρ) (Set.mem_univ (K (c, .inl ()))) (fun h => h) (R := 0 + 1) (duties_later m ρ (barCell c))) $$ [HatB] with HzB
  · isplitr; · iapply (inv_at m ρ K (c, .inl ())); iexact HR
    iexact HatB
  imod (Rounds.cell_close ER (rd m ρ) (Set.mem_univ (K (c, .inr (.inl c)))) (fun h => h) (R := 0) (duties_send_self m ρ c)) $$ [HatSc] with HzSc
  · isplitr; · iapply (inv_at m ρ K (c, .inr (.inl c))); iexact HR
    iexact HatSc
  imod (Rounds.cell_close ER (rd m ρ) (Set.mem_univ (K (c, .inr (.inr c)))) (fun h => h) (R := 0) (duties_recv_self m ρ c)) $$ [HatVc] with HzVc
  · isplitr; · iapply (inv_at m ρ K (c, .inr (.inr c))); iexact HR
    iexact HatVc
  imod (close_all m ρ K c (fun p => .inr (.inl p)) (0 + 1) (others c) fun p _ => duties_later m ρ (sendCell c p)) $$ [HatS] with HzS
  · isplitr; · iexact HR
    iexact HatS
  imod (close_all m ρ K c (fun p => .inr (.inr p)) (0 + 1) (others c) fun p _ => duties_later m ρ (recvCell c p)) $$ [HatV] with HzV
  · isplitr; · iexact HR
    iexact HatV
  imodintro
  iapply Hk
  unfold bodyPost Φ₁ zeros Dat.owesAt Pipeline.owesWithin
  rw [show (dats m ρ 0 c).owed t₀.succ = 0 from rfl]
  isplitl [Hg HzB HzS HzSc HzV HzVc]
  · isplitl [Hg]; · iexact Hg
    isplitl [HzS HzSc]
    · iapply (Entails.of_eq (bigSep_univ_at (fun p => semVal (sendCell c p) 0) c).symm)
      isplitl [HzSc]; · iexact HzSc
      iexact HzS
    isplitl [HzV HzVc]
    · iapply (Entails.of_eq (bigSep_univ_at (fun p => semVal (recvCell c p) 0) c).symm)
      isplitl [HzVc]; · iexact HzVc
      iexact HzV
    iexact HzB
  isplitl [HO]
  · iexists W2
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The obligation of the launch on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  rw [body_flat]
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    isplitl [Ho]; · iexact Ho
    isplitl [Hx] <;> iassumption
  · iintro H; iexact H

end Cert.Exchange

end
-- ==== Proof.Run.Launch.lean ====
/-
# The launch

The launch element deals each device its cells and the tokens of the duties at those cells. One step over all devices
opens every cell's invariant and hands each token to the device that pays the duty: the barrier token of `d` at `c` and
the receive token of `d` at `c` go to `d`, the send tokens stay. The credits of the launch are what the devices owe, so a
device gets seven units for its barrier and one slot for each receive cell. Then every execution of the program ends with
each device's result array at `outv`, its argument as it was, and every semaphore at zero.
-/
module

public import proofs.«01_k».proof.Proof.Run.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨kcell, kcell_injective⟩

/-- The three cells at which device `d` pays device `c`: the barrier, the send and the receive cell. -/
def kind (j : Fin 3) (d : Dev nD) : CK := match j with
  | 0 => .inl () | 1 => .inr (.inl d) | 2 => .inr (.inr d)

theorem kind_injective (d : Dev nD) : Function.Injective fun j => kind j d := by revert d; decide

/-- The token at a cell of device `x.1`, of the kind `x.2.1`, for the duty of device `x.2.2`. -/
def tokOf (x : Dev nD × Fin 3 × Dev nD) : GSem nD τ sig × ℕ × Dev nD := (kcell (x.1, kind x.2.1 x.2.2), 0, x.2.2)

theorem tokOf_injective : Function.Injective tokOf := by
  rintro ⟨c, j, d⟩ ⟨c', j', d'⟩ h
  have hd : d = d' := congrArg (fun y : GSem nD τ sig × ℕ × Dev nD => y.2.2) h
  subst hd
  have hk := kcell_injective (congrArg Prod.fst h)
  have hc : c = c' := congrArg Prod.fst hk
  have hj : j = j' := kind_injective d (congrArg Prod.snd hk)
  rw [hc, hj]

/-- Every token whose payer is another device. -/
def tokens : Finset (GSem nD τ sig × ℕ × Dev nD) :=
  (Finset.univ.filter fun x : Dev nD × Fin 3 × Dev nD => x.2.2 ≠ x.1).map ⟨tokOf, tokOf_injective⟩

def u₀ : UU :=
  (initOf (Pipeline.cells cfgs cellOf_inj) (Pipeline.launchToks cfgs cellOf_inj), initOf cells tokens)

/-- The duty tokens of device `c`'s own cells. -/
def toks (c : Dev nD) : sProp 𝕄 :=
  iprop((bigSep (others c) fun d => dutyTok ER (barCell c) 0 d) ∗ (bigSep (others c) fun d => dutyTok ER (sendCell c d) 0 d)
    ∗ bigSep (others c) fun d => dutyTok ER (recvCell c d) 0 d)

/-- What the launch element deals device `c`. -/
def G (c : Dev nD) : sProp 𝕄 :=
  iprop((bigSep Finset.univ fun k : CK => roundState ER (rd m ρ) (kcell (c, k)) 0)
    ∗ ((bigSep Finset.univ fun k : CK => atPos ER (kcell (c, k)) 0 ∅ 0) ∗ bigSep Finset.univ fun k : CK => reached ER (kcell (c, k)) 0)
    ∗ toks c)

/-- What the step over all devices makes of it. -/
def G' (c : Dev nD) : sProp 𝕄 := iprop(∃ K, ghost m ρ K c)

theorem bigSep_cells (Φ : GSem nD τ sig → sProp 𝕄) :
    bigSep cells Φ = bigSep Finset.univ fun c : Dev nD => bigSep Finset.univ fun k : CK => Φ (kcell (c, k)) := by
  unfold cells; rw [bigSep_map, bigSep_univ_prod]; rfl

theorem bigSep_tokens :
    bigSep tokens (fun x => (dutyTok ER x.1 x.2.1 x.2.2 : sProp 𝕄)) = bigSep Finset.univ fun c : Dev nD => toks c := by
  unfold tokens
  rw [bigSep_map, bigSep_filter, bigSep_univ_prod]
  refine bigSep_congr fun c _ => ?_
  rw [bigSep_univ_prod, bigSep_univ_eq_bigSepL [(0 : Fin 3), 1, 2] (by decide) (by decide)]
  unfold toks others
  simp only [← Finset.filter_ne' Finset.univ c, bigSep_filter]
  rfl

theorem fund_cells : BI.own (ER (initOf cells tokens)) ⊢ (|==> bigSep Finset.univ (G m ρ) : sProp 𝕄) := by
  iintro HX
  imod (Rounds.fund ER (rd m ρ) cells tokens) $$ HX with ⟨Hst, Hr, Hat, Htok⟩
  imodintro
  ihave Hst := (Entails.of_eq (bigSep_cells fun g => roundState ER (rd m ρ) g 0)) $$ Hst
  ihave Hat := (Entails.of_eq (bigSep_cells (F := F) fun g => atPos ER g 0 ∅ 0)) $$ Hat
  ihave Hr := (Entails.of_eq (bigSep_cells (F := F) fun g => reached ER g 0)) $$ Hr
  ihave Htok := (Entails.of_eq (bigSep_tokens (F := F))) $$ Htok
  unfold G; simp only [bigSep_sep']
  isplitl [Hst]; · iexact Hst
  isplitl [Hat Hr]
  · isplitl [Hat] <;> iassumption
  iexact Htok

/-- A family over a device's cells: the barrier cell, the send cells, the receive cells. -/
theorem bigSep_CK (Φ : CK → sProp 𝕄) :
    bigSep Finset.univ Φ = iprop(Φ (.inl ()) ∗ (bigSep Finset.univ fun p => Φ (.inr (.inl p))) ∗ bigSep Finset.univ fun p => Φ (.inr (.inr p))) := by
  rw [bigSep_univ_sum, bigSep_univ_sum, Finset.univ_unique, bigSep_singleton]; rfl

/-- The send and receive semaphores are the kernel's own; -/
theorem ownSems_eq (c : Dev nD) :
    (Pipeline.ownSems0 (Ix := Unit) (Name := ℕ) (U := UU) (Lvl := ℕ) (Val := Elt F) (τ := τ) osem c : sProp 𝕄)
      = iprop((bigSep Finset.univ fun p => semVal (sendCell c p) 0) ∗ bigSep Finset.univ fun p => semVal (recvCell c p) 0) := by
  unfold Pipeline.ownSems0
  rw [bigSep_univ_sum]; rfl
/-- the barrier semaphore is the one unscoped semaphore. -/
theorem unscopedSems_eq (c : Dev nD) : (unscopedSems0 c : sProp 𝕄) = semVal (barCell c) 0 := by
  unfold unscopedSems0; rw [bigSep_eq_bigSepL_of_eq [SemLoc.reg barS] (by decide) (by decide)]; rfl

/-- From its counters at zero and its cells' states, a device's invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (rd m ρ) κ (kcell (c, k))))
          ∗ ((bigSep Finset.univ fun k : CK => atPos ER (kcell (c, k)) 0 ∅ 0) ∗ bigSep Finset.univ fun k : CK => reached ER (kcell (c, k)) 0)
          ∗ toks c) := by
  have hinv : iprop((bigSep Finset.univ fun k : CK => semVal (kcell (c, k)) 0) ∗ bigSep Finset.univ fun k : CK => roundState ER (rd m ρ) (kcell (c, k)) 0)
      ⊢ (|={Set.univ}=> bigSep Finset.univ fun k : CK => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  rw [ownSems_eq, unscopedSems_eq]
  iintro ⟨⟨HS, HV⟩, HB, Hst, Hat, Htok⟩
  imod hinv $$ [HS HV HB Hst] with Hinv
  · isplitr [Hst]
    · rw [bigSep_CK]
      isplitl [HB]; · iexact HB
      isplitl [HS]; · iexact HS
      iexact HV
    · iexact Hst
  imodintro
  isplitl [Hinv]; · iexact Hinv
  isplitl [Hat]; · iexact Hat
  iexact Htok

/-- The tokens go from the device whose cell it is to the device that pays. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep']
  exact BI.sep_mono (Entails.of_eq (bigSep_erase_comm fun c d : Dev nD => (dutyTok ER (barCell c) 0 d : sProp 𝕄)))
    (sep_mono_right (Entails.of_eq (bigSep_erase_comm fun c d : Dev nD => (dutyTok ER (recvCell c d) 0 d : sProp 𝕄))))

theorem regroup :
    (bigSep Finset.univ fun c : Dev nD => iprop((bigSep Finset.univ fun k : CK => iprop(∃ κ : ℕ, cellInv ER (rd m ρ) κ (kcell (c, k))))
          ∗ ((bigSep Finset.univ fun k : CK => atPos ER (kcell (c, k)) 0 ∅ 0) ∗ bigSep Finset.univ fun k : CK => reached ER (kcell (c, k)) 0)
          ∗ toks c) : sProp 𝕄)
      ⊢ bigSep Finset.univ (G' m ρ) := by
  rw [bigSep_sep', bigSep_sep', bigSep_sep', ← bigSep_univ_prod (fun ck : Dev nD × CK => iprop(∃ κ : ℕ, cellInv ER (rd m ρ) κ (kcell ck))),
    ← bigSep_univ_prod (fun ck : Dev nD × CK => (reached ER (kcell ck) 0 : sProp 𝕄)),
    bigSep_congr (s := Finset.univ) (fun (c : Dev nD) _ => bigSep_CK (fun k : CK => (atPos ER (kcell (c, k)) 0 ∅ 0 : sProp 𝕄)))]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_dealt (F := F)) $$ Htok
  have hK : iprop(records m ρ K ∗ (bigSep Finset.univ fun c : Dev nD => places c) ∗ bigSep Finset.univ fun c : Dev nD => payToks c)
      ⊢ bigSep Finset.univ (G' m ρ) := by
    rw [← bigSep_sep']
    refine (sep_mono_left (BI.bigSep_of_persistent (Finset.univ : Finset (Dev nD)) (records m ρ K))).trans ?_
    rw [← bigSep_sep']
    exact bigSep_mono fun c _ => show iprop(records m ρ K ∗ places c ∗ payToks c) ⊢ iprop(∃ K, ghost m ρ K c) from by
      iintro H; iexists K; unfold ghost; iexact H
  iapply hK
  isplitr
  · unfold records; isplitl; · iexact HI
    iexact HR
  isplitl [Hat]; · unfold places; iexact Hat
  iexact Htk

/-- The step over all devices, from their own and their unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A sum of tallies at the cells of the devices of `s`, read at the cell of `p`. -/
theorem tally_sum (s : Finset (Dev nD)) (cell : Dev nD → GSem nD τ sig) (n : ℕ) (p : Dev nD) (hc : ∀ q, cell q = cell p → q = p) :
    (∑ q ∈ s, (tallyAt (cell q) () n : CellTallies nD τ sig Unit)) (cell p) () = if p ∈ s then n else 0 := by
  rw [Finset.sum_apply, Finsupp.finset_sum_apply, ← Finset.sum_ite_eq' s p fun _ => n]
  refine Finset.sum_congr rfl fun q _ => ?_
  rw [tallyAt_apply]
  by_cases h : q = p
  · rw [h, if_pos ⟨rfl, rfl⟩, if_pos rfl]
  · rw [if_neg fun h' => h (hc q h'.1.symm), if_neg h]
/-- The same read at a cell that is none of them. -/
theorem tally_sum_ne (s : Finset (Dev nD)) (cell : Dev nD → GSem nD τ sig) (n : ℕ) (g : GSem nD τ sig) (hc : ∀ q, cell q ≠ g) :
    (∑ q ∈ s, (tallyAt (cell q) () n : CellTallies nD τ sig Unit)) g () = 0 := by
  rw [Finset.sum_apply, Finsupp.finset_sum_apply]
  refine Finset.sum_eq_zero fun q _ => ?_
  rw [tallyAt_apply, if_neg fun h' => hc q h'.1.symm]

theorem O₀_eq (c : Dev nD) : O₀ c = ∑ p ∈ others c, tallyAt (recvCell p c) () N + ∑ p ∈ others c, tallyAt (barCell p) () 1 := by
  unfold O₀ owedRecv owedBar; rw [sum_peers, sum_peers]

theorem mem_others {c d : Dev nD} : Iff (c ∈ others d) (d ∈ others c) := by
  unfold others; rw [Finset.mem_erase, Finset.mem_erase]
  exact ⟨fun h => ⟨h.1.symm, Finset.mem_univ _⟩, fun h => ⟨h.1.symm, Finset.mem_univ _⟩⟩

/-- Device `d` owes every other device's barrier cell one unit, -/
theorem owed_bar (d c : Dev nD) : O₀ d (barCell c) () = if d ∈ others c then 1 else 0 := by
  rw [O₀_eq, Pi.add_apply, Finsupp.add_apply, tally_sum_ne _ (fun p => recvCell p d) _ _ (fun q h => recv_ne_bar d (congrArg Prod.snd h)), Nat.zero_add,
    tally_sum _ (fun p => barCell p) _ c (fun q h => congrArg (fun g : GSem nD τ sig => g.1.1) h)]
  simp only [mem_others]
/-- and device `d`'s receive cell on every other device one slot. -/
theorem owed_recv (d c p : Dev nD) (h : p ≠ c) : O₀ d (recvCell c p) () = if d = p then N else 0 := by
  rw [O₀_eq, Pi.add_apply, Finsupp.add_apply, tally_sum_ne _ (fun p => barCell p) _ _ (fun q h => recv_ne_bar p (congrArg Prod.snd h).symm), Nat.add_zero]
  by_cases hd : d = p
  · subst hd
    rw [tally_sum _ (fun p => recvCell p d) _ c (fun q h => congrArg (fun g : GSem nD τ sig => g.1.1) h), if_pos rfl,
      if_pos (Finset.mem_erase.mpr ⟨h.symm, Finset.mem_univ _⟩)]
  · rw [tally_sum_ne _ (fun p => recvCell p d) _ _ (fun q h => hd (recv_eq_iff.mp (congrArg Prod.snd h))), if_neg hd]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_mem,
    Finset.sum_const, Finset.univ_inter, Finset.card_erase_of_mem (Finset.mem_univ c)]
  rfl

theorem launch_recv (c p : Dev nD) (h : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p h, Finset.sum_ite_eq' Finset.univ p fun _ => N,
    if_pos (Finset.mem_univ _)]

/-- The receive semaphores as locations. -/
def recvLoc : Dev nD ↪ SemLoc sig := ⟨fun p => .dma (recvS p), fun _ _ h => recv_eq_iff.mp h⟩

theorem creds (c : Dev nD) : (Pipeline.launchCred O₀ c : sProp 𝕄) ⊢ waitCreds c := by
  unfold Pipeline.launchCred waitCreds
  rw [bigSep_univ_at _ (SemLoc.reg barS), launch_bar]
  refine sep_mono_right ?_
  have hsub : (others c).map recvLoc ⊆ Finset.univ.erase (SemLoc.reg barS) := fun x hx => by
    obtain ⟨p, -, rfl⟩ := Finset.mem_map.mp hx
    exact Finset.mem_erase.mpr ⟨recv_ne_bar p, Finset.mem_univ _⟩
  refine (bigSep_subset hsub).trans ?_
  rw [bigSep_map]
  exact bigSep_mono fun p hp => Entails.of_eq (congrArg cred (launch_recv c p (Finset.mem_erase.mp hp).1))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold gathPts; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems_eq, unscopedSems_eq]
  unfold Φ₁ zeros gathPts
  iintro ⟨Hr, HzS, HzV, HzB⟩
  isplitl [HzB]; · iexact HzB
  isplitl [HzS HzV]
  · isplitl [HzS] <;> iassumption
  iexists (gath m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` on device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero counters: every fair execution of the
    program ends, with every window's array at its contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it began, -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Run.Frames.lean ====
/-
# The frames, and what the kernel leaves

Each window's block is its whole array. So device `c`'s staged block is its argument, and its result array ends at
`outv`. The kernel as printed for the bit-level claims and its idealization are the same text, so the one run gives both
frames.
-/
module

public import proofs.«01_k».proof.Defs
public import proofs.«01_k».proof.Proof.Gen.Kernel
public import proofs.«01_k».proof.Proof.Run.Launch
public import Idealize.ShloMosaic.Lib.Pipeline.Value

@[expose] public section

noncomputable section

namespace Cert.Exchange

open Cert.KernelIdeal Cert.KernelIdeal.Gen
open Idealize.ShloMosaic Idealize.SL.Sem
open Idealize.ShloMosaic.TcCoe

variable {F : FTy → Type} [FloatOps F]
variable (m : (ℓ : Loc nD τ sig) → Buf (Elt F) ℓ) (ρ : Dev nD → PrngReg)

/-! ## The two windows -/

theorem xstg_eq (c : Dev nD) : xstg m ρ c = m ((c : Thread nD τ).loc main_arg0) := by
  funext (i : S2048x1024.Idx)
  show m ((c : Thread nD τ).loc main_arg0) ((win0_0.blk (0 : Fin 1)).view.emb i) = _
  exact congrArg (m ((c : Thread nD τ).loc main_arg0))
    (funext fun (a : Fin 2) => Fin.ext (win0_0.rect_emb_val_of_index_zero (0 : Fin 1) a rfl i))

/-- The result's block is its whole array. -/
theorem emb_out (i : S2x1024.Idx) : ((cfg0.win (1 : Fin 2)).blk t₀).view.emb i = i :=
  funext fun (a : Fin 2) => Fin.ext (win0_1.rect_emb_val_of_index_zero t₀ a rfl i)

theorem finalA_out (c : Dev nD) : finalA m ρ c (1 : Fin 2) = outv m ρ := by
  refine (dats (F := F) m ρ 0 c).arrAt_eq_of_cover (1 : Fin 2) (outv m ρ) (fun t _ => ?_) (fun (i : S2x1024.Idx) => ⟨t₀, rfl, ?_⟩)
  · rw [fin_N t]
    funext (i : S2x1024.Idx)
    show outv m ρ i = outv m ρ (((cfg0.win (1 : Fin 2)).blk t₀).view.emb i)
    rw [emb_out]
  · have h := View.emb_mem_set ((cfg0.win (1 : Fin 2)).blk t₀).view i
    rw [emb_out] at h
    exact h

/-! ## The run, read at the arrays -/

/-- For any float values, every fair execution ends with `outv` in each device's result array, its argument as it was,
    and every semaphore at zero. -/
theorem run_arrays : θ_run (defs (F := F)) (onTc (τ := τ) (main (F := F))) ⟨m, fun _ => 0, ρ⟩ (fun r =>
    (∀ c : Dev nD, r.2.mem ((c.tc : Thread nD τ).loc main_v1) = outv m ρ
      ∧ r.2.mem ((c.tc : Thread nD τ).loc main_arg0) = m ((c.tc : Thread nD τ).loc main_arg0))
    ∧ r.2.sem = fun _ => 0) :=
  (θ_run defs _ _).mono (fun _ h => ⟨fun c => ⟨(h.1 c (1 : Fin 2)).trans (finalA_out m ρ c),
    (h.1 c (0 : Fin 2)).trans (finalA_x m ρ c)⟩, h.2⟩) (run_main m ρ)

/-! ## The two frames -/

/-- The two printings' kernel tables run the same body. -/
theorem defs₀_eq : (@Cert.Kernel.defs₀ F _ _) = (@Cert.KernelIdeal.defs₀ F _ _) := by
  funext p ℓ a
  cases p with
  | tc =>
    match ℓ, a with
    | 0, (t, s) => rfl
    | ⟨n + 1, h⟩, _ => exact absurd h (Nat.not_lt.2 (Nat.le_add_left _ _))
  | scScalar _ => rfl
  | scVector _ _ => rfl

theorem defs_eq : (@Cert.Kernel.defs F _ _) = (@Cert.KernelIdeal.defs F _ _) :=
  congrArg (Pipeline.defs (Cert.KernelIdeal.pcfgs (F := F))) defs₀_eq

theorem frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0))
    ∧ r.2.sem = fun _ => 0) :=
  (θ_run defs _ _).mono (fun _ h => ⟨fun c => (h.1 c).2, h.2⟩) (run_arrays m ρ)

theorem frame_kernelIdeal : Cert.quiescent_KernelIdeal := fun m ρ _ => frame (F := Ideal) m ρ

theorem frame_kernel : Cert.quiescent_Kernel := fun m ρ _ => by
  rw [defs_eq]; exact frame (F := Bits) m ρ

end Cert.Exchange

end
-- ==== Proof.Value.Reference.lean ====
/- The reference program's run: its eleven host operations as a list, and what the result buffer holds once they
   have run in order — the maximum of each column stacked on the row of its first occurrence. -/
module

public import proofs.«01_k».proof.Proof.Gen.ReferenceIdeal
public import Idealize.ShloMosaic.Lib.StableHlo.Run
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem
open Idealize.ShloMosaic.StableHlo

variable {F : FTy → Type} [FloatOps F]

/-- The pairs (largest value, its first row) of the columns of `x`, by the reducer the program names. -/
def argPair (x : FVec F S16384x1024 .f32) : S1024.Idx → F .f32 × BitVec 32 :=
  Host.argReduce reducer_argmax_f32_i32 x (iotaInDim S16384x1024 32 0) (constant S_ .f32 0xFF800000#32) (constantI S_ 32 0#32)
    Facts₀.reducesTo_S16384x1024_S1024_d0 Facts₀.h_S_

/-- The maxima of the columns of `x`, the result's row 0. -/
def maxRow (x : FVec F S16384x1024 .f32) : FVec F S1x1024 .f32 :=
  broadcastInDim S1x1024 ![1] Facts₀.bcast_S1024_S1x1024_1
    (Host.reduce FloatOps.maximumf x (constant S_ .f32 0xFF800000#32) Facts₀.reducesTo_S16384x1024_S1024_d0 Facts₀.h_S_)

/-- The rows the maxima are first met in, as floats: the result's row 1. -/
def idxRow (x : FVec F S16384x1024 .f32) : FVec F S1x1024 .f32 :=
  broadcastInDim S1x1024 ![1] Facts₀.bcast_S1024_S1x1024_1 (sitofp .f32 (fun j => (argPair x j).2))

/-- What the reference returns of `x`. -/
def result (x : FVec F S16384x1024 .f32) : FVec F S2x1024 .f32 :=
  concatenate S2x1024 0 [⟨S1x1024, maxRow x⟩, ⟨S1x1024, idxRow x⟩] Facts₀.concatenates_S1x1024_S1x1024_S2x1024_d0

/-- The program's operations, the outlined `argmax`'s first, with their functions spelt out. -/
def ops : List (HloOp τ sig (Elt F)) :=
  [ nullary main_call0_v0 (iotaInDim S16384x1024 32 0),
    nullary main_call0_cst (constant S_ .f32 0xFF800000#32),
    nullary main_call0_c (constantI S_ 32 0#32),
    quaternary main_arg0 main_call0_v0 main_call0_cst main_call0_c main_call0_v1_0
      ((fun x y u v j => (Host.argReduce reducer_argmax_f32_i32 x y u v Facts₀.reducesTo_S16384x1024_S1024_d0 Facts₀.h_S_ j).1) :
        (⟨S16384x1024, .f32⟩ : BufTy).Contents (Elt F) → (⟨S16384x1024, .i32⟩ : BufTy).Contents (Elt F) → (⟨S_, .f32⟩ : BufTy).Contents (Elt F) →
          (⟨S_, .i32⟩ : BufTy).Contents (Elt F) → (⟨S1024, .f32⟩ : BufTy).Contents (Elt F)),
    quaternary main_arg0 main_call0_v0 main_call0_cst main_call0_c main_v0
      ((fun x y u v j => (Host.argReduce reducer_argmax_f32_i32 x y u v Facts₀.reducesTo_S16384x1024_S1024_d0 Facts₀.h_S_ j).2) :
        (⟨S16384x1024, .f32⟩ : BufTy).Contents (Elt F) → (⟨S16384x1024, .i32⟩ : BufTy).Contents (Elt F) → (⟨S_, .f32⟩ : BufTy).Contents (Elt F) →
          (⟨S_, .i32⟩ : BufTy).Contents (Elt F) → (⟨S1024, .i32⟩ : BufTy).Contents (Elt F)),
    unary main_v0 main_v1 (sitofp .f32 : (⟨S1024, .i32⟩ : BufTy).Contents (Elt F) → (⟨S1024, .f32⟩ : BufTy).Contents (Elt F)),
    nullary main_cst (constant S_ .f32 0xFF800000#32),
    binary main_arg0 main_cst main_v2 ((fun x v => Host.reduce FloatOps.maximumf x v Facts₀.reducesTo_S16384x1024_S1024_d0 Facts₀.h_S_) :
      (⟨S16384x1024, .f32⟩ : BufTy).Contents (Elt F) → (⟨S_, .f32⟩ : BufTy).Contents (Elt F) → (⟨S1024, .f32⟩ : BufTy).Contents (Elt F)),
    unary main_v2 main_v3 (broadcastInDim S1x1024 ![1] Facts₀.bcast_S1024_S1x1024_1 :
      (⟨S1024, .f32⟩ : BufTy).Contents (Elt F) → (⟨S1x1024, .f32⟩ : BufTy).Contents (Elt F)),
    unary main_v1 main_v4 (broadcastInDim S1x1024 ![1] Facts₀.bcast_S1024_S1x1024_1 :
      (⟨S1024, .f32⟩ : BufTy).Contents (Elt F) → (⟨S1x1024, .f32⟩ : BufTy).Contents (Elt F)),
    binary main_v3 main_v4 main_v5
      ((fun a b => concatenate S2x1024 0 [⟨S1x1024, a⟩, ⟨S1x1024, b⟩] Facts₀.concatenates_S1x1024_S1x1024_S2x1024_d0) :
        (⟨S1x1024, .f32⟩ : BufTy).Contents (Elt F) → (⟨S1x1024, .f32⟩ : BufTy).Contents (Elt F) → (⟨S2x1024, .f32⟩ : BufTy).Contents (Elt F)) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- On the one device, from any memory with zero counters, every weakly fair execution of the reference terminates
    with `result` of its argument, the argument unchanged, and every counter zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v5) = result (m ((c.tc : Thread nD τ).loc main_arg0))
      ∧ r.2.mem ((c.tc : Thread nD τ).loc main_arg0) = m ((c.tc : Thread nD τ).loc main_arg0)) ∧ r.2.sem = fun _ => 0 :=
  (θ_run defs _ _).mono (fun r h => ⟨fun c => ⟨
      (h c main_v5).trans (by unfold ops; after_results; rfl),
      (h c main_arg0).trans (by unfold ops; after_results)⟩, sem_eq_zero_of_no_sems (by decide) r.2⟩)
    (run_seq scopedRefs_eq scopedSems_eq defs main (fun _ => ops) main_eq (fun _ => ops_sub) m ρ)

end Cert.ReferenceIdeal.Value

end
-- ==== Proof.Value.First.lean ====
/-
# The largest value and its first position

`First n f v r` says that `v` is the largest of `f 0, …, f (n - 1)` and `r` the first position that holds it. The loop
over a lane, a reduction over lanes, and the exchange over devices each establish it, as does the reference's reduction:
the first by a step, the two others by combining strictly increasing strips of positions. It determines `v` and `r`.
-/
module

public import Mathlib.Data.Finset.Fold
public import Mathlib.Order.BoundedOrder.Basic

@[expose] public section

namespace Cert.First

variable {A : Type} [LinearOrder A] [OrderBot A]

/-- `v` is the largest of the first `n` values of `f`, first met at `r`; of no values, `⊥` at `0`. -/
structure First (n : ℕ) (f : ℕ → A) (v : A) (r : ℕ) : Prop where
  le : ∀ k < n, f k ≤ v
  lt : ∀ k < r, f k < v
  hit : r < n ∧ f r = v ∨ v = ⊥ ∧ r = 0

variable {n : ℕ} {f : ℕ → A} {v v' : A} {r r' : ℕ}

theorem First.zero (f : ℕ → A) : First 0 f ⊥ 0 :=
  ⟨fun _ h => absurd h (Nat.not_lt_zero _), fun _ h => absurd h (Nat.not_lt_zero _), .inr ⟨rfl, rfl⟩⟩

/-- Of at least one value, `r` is a position that holds `v`. -/
theorem First.attained (h : First n f v r) (hn : 0 < n) : r < n ∧ f r = v := by
  rcases h.hit with h' | ⟨rfl, rfl⟩
  · exact h'
  · exact ⟨hn, le_bot_iff.1 (h.le 0 hn)⟩

/-- One value more: it replaces the largest exactly if it is larger. -/
theorem First.step (h : First n f v r) :
    First (n + 1) f (if v < f n then f n else v) (if v < f n then n else r) := by
  by_cases hv : v < f n
  · rw [if_pos hv, if_pos hv]
    refine ⟨fun k hk => ?_, fun k hk => lt_of_le_of_lt (h.le k hk) hv, .inl ⟨Nat.lt_succ_self n, rfl⟩⟩
    rcases Nat.lt_succ_iff_lt_or_eq.1 hk with hk | rfl
    · exact ((h.le k hk).trans_lt hv).le
    · exact le_rfl
  · rw [if_neg hv, if_neg hv]
    refine ⟨fun k hk => ?_, h.lt, h.hit.imp (fun h' => ⟨Nat.lt_succ_of_lt h'.1, h'.2⟩) id⟩
    rcases Nat.lt_succ_iff_lt_or_eq.1 hk with hk | rfl
    · exact h.le k hk
    · exact not_lt.1 hv

theorem First.unique (h : First n f v r) (h' : First n f v' r') (hn : 0 < n) : v = v' ∧ r = r' := by
  obtain ⟨hr, e⟩ := h.attained hn
  obtain ⟨hr', e'⟩ := h'.attained hn
  have hv : v = v' := le_antisymm (e ▸ h'.le r hr) (e' ▸ h.le r' hr')
  refine ⟨hv, le_antisymm (not_lt.1 fun hlt => ?_) (not_lt.1 fun hlt => ?_)⟩
  · exact absurd (h.lt r' hlt) (by rw [e', hv]; exact lt_irrefl _)
  · exact absurd (h'.lt r hlt) (by rw [e, hv]; exact lt_irrefl _)

/-- Only the first `n` values matter. -/
theorem First.congr {g : ℕ → A} (h : First n f v r) (hfg : ∀ k < n, f k = g k) : First n g v r := by
  have hr : r ≤ n := by rcases h.hit with h' | ⟨-, h'⟩ <;> omega
  refine ⟨fun k hk => hfg k hk ▸ h.le k hk, fun k hk => hfg k (hk.trans_le hr) ▸ h.lt k hk, h.hit.imp (fun h' => ⟨h'.1, ?_⟩) id⟩
  exact hfg r h'.1 ▸ h'.2

/-- Strips. The positions below `N` are covered by strips, strip `i` being `pos i 0 < pos i 1 < … < pos i (n - 1)`; each
    strip has its largest value `v i`, first at `r i`. Then the largest `M` of the `v i`, with the least position `I` among
    the strips that attain it, is the whole's. -/
theorem First.combine {ι : Type} {N : ℕ} {f : ℕ → A} (hn : 0 < n) (pos : ι → ℕ → ℕ) (hmono : ∀ i, StrictMono (pos i))
    (hlt : ∀ i k, k < n → pos i k < N) (hcover : ∀ R < N, ∃ i k, k < n ∧ pos i k = R)
    {v : ι → A} {r : ι → ℕ} (h : ∀ i, First n (fun k => f (pos i k)) (v i) (r i))
    {M : A} {I : ℕ} (hM : ∀ i, v i ≤ M) (hI : ∀ i, v i = M → I ≤ pos i (r i)) (hit : ∃ i, v i = M ∧ I = pos i (r i)) :
    First N f M I := by
  refine ⟨fun R hR => ?_, fun R hR => ?_, .inl ?_⟩
  · obtain ⟨i, k, hk, rfl⟩ := hcover R hR
    exact ((h i).le k hk).trans (hM i)
  · obtain ⟨i₀, e₀, rfl⟩ := hit
    obtain ⟨hr₀, -⟩ := (h i₀).attained hn
    obtain ⟨i, k, hk, rfl⟩ := hcover R (hR.trans (hlt i₀ _ hr₀))
    refine lt_of_le_of_ne (((h i).le k hk).trans (hM i)) fun e => ?_
    have hv : v i = M := le_antisymm (hM i) (e ▸ (h i).le k hk)
    have hk' : k < r i := (hmono i).lt_iff_lt.1 (hR.trans_le (hI i hv))
    exact absurd ((h i).lt k hk') (by rw [hv]; exact fun hlt => absurd e hlt.ne)
  · obtain ⟨i₀, e₀, rfl⟩ := hit
    obtain ⟨hr₀, e⟩ := (h i₀).attained hn
    exact ⟨hlt i₀ _ hr₀, e.trans e₀⟩

/-- A fold of an operation that answers one of its operands, the lesser by `val`: the fold is the starting value or one
    of the values folded, and by `val` no greater than any of them. -/
theorem fold_least {ι α β : Type} [Preorder β] (op : α → α → α) [Std.Commutative op] [Std.Associative op] (val : α → β)
    (hsel : ∀ x y, op x y = x ∨ op x y = y) (hle : ∀ x y, val (op x y) ≤ val x ∧ val (op x y) ≤ val y)
    (b : α) (g : ι → α) (s : Finset ι) :
    (s.fold op b g = b ∨ ∃ i ∈ s, s.fold op b g = g i) ∧ val (s.fold op b g) ≤ val b ∧ ∀ i ∈ s, val (s.fold op b g) ≤ val (g i) := by
  classical
  induction s using Finset.induction_on with
  | empty => exact ⟨.inl rfl, le_rfl, fun i hi => absurd hi (Finset.notMem_empty i)⟩
  | insert a s ha ih =>
    obtain ⟨ih₁, ih₂, ih₃⟩ := ih
    rw [Finset.fold_insert ha]
    refine ⟨?_, (hle _ _).2.trans ih₂, fun i hi => ?_⟩
    · rcases hsel (g a) (s.fold op b g) with e | e
      · exact .inr ⟨a, Finset.mem_insert_self a s, e⟩
      · rw [e]
        exact ih₁.imp id fun ⟨i, hi, e'⟩ => ⟨i, Finset.mem_insert_of_mem hi, e'⟩
    · rcases Finset.mem_insert.1 hi with rfl | hi
      · exact (hle _ _).1
      · exact (hle _ _).2.trans (ih₃ i hi)

end Cert.First
-- ==== Proof.Value.Local.lean ====
/-
# One device's pair

The loop keeps, for each of eight lanes and each column, the largest of the values met and the trip that first met it:
lane `s` at trip `k` is row `8 k + s` of the device's block. The reduction over the lanes then gives the columns' largest
values with their first rows, and the device's number places the rows among all.
-/
module

public import proofs.«01_k».proof.Proof.Run.Cells
public import proofs.«01_k».proof.Proof.Value.First
public import Idealize.ShloMosaic.Lib.ValueIdx
public import Idealize.ShloMosaic.Lib.Pipeline.Value
public import Idealize.ShloMosaic.Lib.WordArith.Masks
public import Idealize.ShloMosaic.PureOps.Reduce
public import Idealize.ShloMosaic.PureOps.Ideal.Laws

@[expose] public section

noncomputable section

namespace Cert.Exchange

open Cert.KernelIdeal Cert.KernelIdeal.Gen Cert.First

open Idealize.ShloMosaic
open Idealize.ShloMosaic.ValueIdx

/-- Column `j` of an array of `n` rows, as a sequence. -/
def colOf {n : ℕ} (x : (⟨2, ![n, 1024]⟩ : Shape).Idx → EReal) (j : Fin 1024) (r : ℕ) : EReal :=
  if h : r < n then x (ix2 ⟨r, h⟩ j) else ⊥

theorem colOf_of_lt {n : ℕ} (x : (⟨2, ![n, 1024]⟩ : Shape).Idx → EReal) (j : Fin 1024) {r : ℕ} (h : r < n) :
    colOf x j r = x (ix2 ⟨r, h⟩ j) := dif_pos h

/-! ## The operations at an index -/

/-- A comparison decides, and a selection by it is the conditional. -/
theorem select_ofBool {α : Type} (p : Prop) [Decidable p] (a b : α) :
    Scalar.select (BitVec.ofBool (decide p)) a b = if p then a else b := by
  by_cases h : p
  · rw [decide_eq_true h, if_pos h]; exact select_one a b
  · rw [decide_eq_false h, if_neg h]; exact select_zero a b

theorem ofBits_bot : (FloatOps.ofBits (F := Ideal) .f32 0xFF800000#32 : EReal) = ⊥ := by
  simp [Ideal.ofBits, Ideal.ieee]
theorem ofBits_top : (FloatOps.ofBits (F := Ideal) .f32 0x7F800000#32 : EReal) = ⊤ := by
  simp [Ideal.ofBits, Ideal.ieee]
theorem ofBits_2048 : (FloatOps.ofBits (F := Ideal) .f32 0x45000000#32 : EReal) = ((2048 : ℝ) : EReal) := by
  simp [Ideal.ofBits, Ideal.ieee]
  rw [← EReal.coe_mul]; norm_num

/-- The source index of lane `s` under a reduction over the lanes. -/
theorem lift_ix (j : Fin 1024) (s : Fin 8) : reduces_S8x1024_S1024.lift (ix1 j) s = ix2 s j := by
  funext a; match a with | ⟨0, _⟩ => rfl | ⟨1, _⟩ => rfl

theorem row_apply (v : FVec Ideal S1024 .f32) (j : Fin 1024) : shapeCast S1x1024 v shapeCasts_S1024_S1x1024 (ix2 0 j) = v (ix1 j) := by
  refine shapeCast_apply _ _ _ _ ?_
  simp [Shape.rowMajor_val_one, Shape.rowMajor_val_two, ix1, ix2]

theorem slab_apply (v : FVec Ideal S1024 .f32) (j : Fin 1024) :
    shapeCast S1x1x1024 v shapeCasts_S1024_S1x1x1024 (ix3 0 0 j) = v (ix1 j) := by
  refine shapeCast_apply _ _ _ _ ?_
  simp [Shape.rowMajor_val_one, Shape.rowMajor_val_three, ix1, ix3]

/-- A row laid over the eight lanes. -/
theorem overLanes_apply (v : FVec Ideal S1024 .f32) (s : Fin 8) (j : Fin 1024) :
    broadcastTo S8x1024 (shapeCast S1x1024 v shapeCasts_S1024_S1x1024) broadcasts_S1x1024_S8x1024 (ix2 s j) = v (ix1 j) := by
  rw [← row_apply v j]
  refine broadcastTo_apply _ _ _ _ fun a => ?_
  match a with | ⟨0, _⟩ => rfl | ⟨1, _⟩ => rfl

/-- The columns' largest values over the lanes: above every lane's, and some lane's. -/
theorem maxLanes (v : FVec Ideal S8x1024 .f32) (j : Fin 1024) :
    (∀ s : Fin 8, (v (ix2 s j) : EReal) ≤ k0_pay7 v (ix1 j)) ∧ ∃ s : Fin 8, (v (ix2 s j) : EReal) = k0_pay7 v (ix1 j) := by
  have e : k0_pay7 v (ix1 j) = (Finset.univ : Finset (Fin 8)).fold max (⊥ : EReal) (fun s => v (ix2 s j)) := by
    refine (Ideal.multiReduction_maximumf_single v 0xFF800000#32 reduces_S8x1024_S1024 (.inl rfl) rfl (ix1 j)).trans ?_
    rw [ofBits_bot]
    exact Finset.fold_congr fun s _ => congrArg v (lift_ix j s)
  obtain ⟨h₁, -, h₃⟩ := fold_least max (OrderDual.toDual : EReal → ERealᵒᵈ) (fun x y => (max_choice x y))
    (fun x y => ⟨le_max_left x y, le_max_right x y⟩) ⊥ (fun s : Fin 8 => v (ix2 s j)) Finset.univ
  rw [← e] at h₁ h₃
  have h₃' : ∀ s : Fin 8, (v (ix2 s j) : EReal) ≤ k0_pay7 v (ix1 j) := fun s => OrderDual.toDual_le_toDual.1 (h₃ s (Finset.mem_univ s))
  refine ⟨h₃', ?_⟩
  rcases h₁ with h | ⟨s, -, h⟩
  · exact ⟨0, (le_bot_iff.1 ((h₃' 0).trans_eq h)).trans h.symm⟩
  · exact ⟨s, h.symm⟩

/-- The least word over the lanes: at most every lane's, and some lane's if one is at most the starting word. -/
theorem minWords (v : IVec S8x1024 32) (j : Fin 1024) (hv : ∀ s : Fin 8, (v (ix2 s j)).toInt < 2147483647) :
    let w := multiReductionI .minsi [0] S1024 v 2147483647#32 reduces_S8x1024_S1024 rfl (ix1 j)
    (∀ s : Fin 8, w.toInt ≤ (v (ix2 s j)).toInt) ∧ ∃ s : Fin 8, w = v (ix2 s j) := by
  intro w
  have e : w = (Finset.univ : Finset (Fin 8)).fold IntOp.minsi 2147483647#32 (fun s => v (ix2 s j)) := by
    refine (multiReductionI_eq_fold .minsi v _ reduces_S8x1024_S1024 rfl (ix1 j)).trans ?_
    refine (Shape.Reduces.fold_filter_drop_single reduces_S8x1024_S1024 _ _ v (ix1 j)).trans ?_
    exact Finset.fold_congr fun s _ => congrArg v (lift_ix j s)
  have hsel : ∀ x y : BitVec 32, IntOp.minsi x y = x ∨ IntOp.minsi x y = y := fun x y => by
    unfold IntOp.minsi; split <;> simp
  have hle : ∀ x y : BitVec 32, (IntOp.minsi x y).toInt ≤ x.toInt ∧ (IntOp.minsi x y).toInt ≤ y.toInt := fun x y => by
    unfold IntOp.minsi; split <;> rename_i h <;> simp only [BitVec.slt, decide_eq_true_eq] at h <;> omega
  obtain ⟨h₁, -, h₃⟩ := fold_least IntOp.minsi BitVec.toInt hsel hle 2147483647#32 (fun s : Fin 8 => v (ix2 s j)) Finset.univ
  rw [← e] at h₁ h₃
  refine ⟨fun s => h₃ s (Finset.mem_univ s), ?_⟩
  rcases h₁ with h | ⟨s, -, h⟩
  · have := h₃ 0 (Finset.mem_univ _)
    have h0 := hv 0
    rw [h] at this
    exact absurd (lt_of_le_of_lt this h0) (by decide)
  · exact ⟨s, h⟩

/-! ## The loop -/

theorem trips_eq : k0_t1_loop.trips = 256 := by decide

theorem rowsAt_apply (x : S2048x1024.Idx → EReal) (k : Fin k0_t1_loop.trips) (s : Fin 8) (j : Fin 1024) :
    (rowsAt (F := Ideal) x k (ix2 s j) : EReal) = colOf x j (8 * k.val + s.val) := by
  have hk : k.val < 256 := trips_eq ▸ k.isLt
  rw [colOf_of_lt x j (by have := s.isLt; omega : 8 * k.val + s.val < 2048)]
  refine congrArg x (Shape.idx_ext₂ ?_ ?_)
  · show (Scf.iv 0#32 1#32 k.val * 8#32).toNat + 1 * s.val = 8 * k.val + s.val
    rw [BitVec.toNat_mul, WordArith.toNat_iv_zero_one _ (by omega)]
    simp only [BitVec.toNat_ofNat]
    omega
  · show 0 + 1 * j.val = j.val
    omega

theorem pay5_apply (a b : FVec Ideal S8x1024 .f32) (i : S8x1024.Idx) :
    (k0_pay5 a b i : EReal) = if (a i : EReal) < b i then b i else a i := by
  refine Eq.trans ?_ (select_ofBool ((a i : EReal) < b i) (b i) (a i))
  unfold k0_pay5 k0_pay4 k0_pay3
  rw [shapeCast_self]
  rfl

theorem pay6_apply (k : Fin k0_t1_loop.trips) (a b : FVec Ideal S8x1024 .f32) (w : IVec S8x1024 32) (i : S8x1024.Idx) :
    k0_pay6 k a w b i = if (a i : EReal) < b i then Scf.iv 0#32 1#32 k.val else w i := by
  refine Eq.trans ?_ (select_ofBool ((a i : EReal) < b i) (Scf.iv 0#32 1#32 k.val) (w i))
  unfold k0_pay6 k0_pay4 k0_pay3
  rw [shapeCast_self]
  rfl

/-- Before trip `k` a lane carries the largest of its first `k` values and the trip that first met it. -/
theorem carried_first (x : S2048x1024.Idx → EReal) (s : Fin 8) (j : Fin 1024) : ∀ k ≤ 256, ∃ r ≤ k,
    (carried (F := Ideal) x k).2 (ix2 s j) = BitVec.ofNat 32 r
      ∧ First k (fun q => colOf x j (8 * q + s.val)) ((carried (F := Ideal) x k).1 (ix2 s j) : EReal) r
  | 0, _ => ⟨0, le_rfl, rfl, by
      have e : ((carried (F := Ideal) x 0).1 (ix2 s j) : EReal) = ⊥ := ofBits_bot
      rw [e]; exact First.zero _⟩
  | k + 1, hk => by
    obtain ⟨r, hr, hw, hf⟩ := carried_first x s j k (by omega)
    have hk' : k < k0_t1_loop.trips := by rw [trips_eq]; omega
    have hs := carried_succ (F := Ideal) x ⟨k, hk'⟩
    have e₁ : (carried (F := Ideal) x (k + 1)).1 (ix2 s j) = k0_pay5 (F := Ideal) (carried x k).1 (rowsAt x ⟨k, hk'⟩) (ix2 s j) :=
      congrFun (congrArg Prod.fst hs) (ix2 s j)
    have e₂ : (carried (F := Ideal) x (k + 1)).2 (ix2 s j) =
        k0_pay6 ⟨k, hk'⟩ (carried (F := Ideal) x k).1 (carried (F := Ideal) x k).2 (rowsAt x ⟨k, hk'⟩) (ix2 s j) :=
      congrFun (congrArg Prod.snd hs) (ix2 s j)
    rw [pay5_apply, rowsAt_apply] at e₁
    rw [pay6_apply, rowsAt_apply] at e₂
    refine ⟨_, ?_, e₂.trans ?_, (congrArg (fun v => First _ _ v _) e₁).mpr hf.step⟩
    · split <;> omega
    · rw [apply_ite (BitVec.ofNat 32), hw]
      congr 1
      simp [Scf.iv]

/-! ## The reduction over the lanes -/

/-- The rows of the lanes that attain the columns' largest values; a lane that does not holds the number of rows. -/
def masked (v : FVec Ideal S8x1024 .f32) (b : IVec S8x1024 32) : IVec S8x1024 32 :=
  select (cmpf .oeq v (broadcastTo S8x1024 (shapeCast S1x1024 (k0_pay7 v) shapeCasts_S1024_S1x1024) broadcasts_S1x1024_S8x1024))
    (addi (muli b (broadcast S8x1024 8#32)) (iota .tc S8x1024 32 [0] iota_S8x1024_d0_w32)) (broadcast S8x1024 2048#32)

theorem masked_apply (v : FVec Ideal S8x1024 .f32) (b : IVec S8x1024 32) (s : Fin 8) (j : Fin 1024) :
    masked v b (ix2 s j)
      = if (v (ix2 s j) : EReal) = k0_pay7 v (ix1 j) then b (ix2 s j) * 8#32 + BitVec.ofNat 32 s.val else 2048#32 := by
  refine Eq.trans ?_ (select_ofBool ((v (ix2 s j) : EReal) = k0_pay7 v (ix1 j)) _ _)
  rw [← overLanes_apply (k0_pay7 v) s j, ← iota_single_apply .tc S8x1024 32 0 iota_S8x1024_d0_w32 (ix2 s j)]
  rfl

theorem pay8_apply (w : BitVec 32) (v : FVec Ideal S8x1024 .f32) (b : IVec S8x1024 32) (j : Fin 1024) :
    (k0_pay8 w v b (ix1 j) : EReal)
      = (((multiReductionI .minsi [0] S1024 (masked v b) 2147483647#32 reduces_S8x1024_S1024 rfl (ix1 j)).toInt : ℝ) : EReal)
        + ((w.toInt : ℝ) : EReal) * ((2048 : ℝ) : EReal) := by
  rw [← ofBits_2048]
  rfl

theorem toInt_ofNat_small {n : ℕ} (h : n ≤ 2048) : (BitVec.ofNat 32 n).toInt = n := by
  rw [BitVec.toInt_eq_toNat_of_lt] <;> rw [BitVec.toNat_ofNat] <;> omega

/-- What the device finds: each column's largest value and its first row, which its number then shifts. -/
theorem lanes_first (x : S2048x1024.Idx → EReal) (j : Fin 1024) :
    ∃ r < 2048, First 2048 (colOf x j) (k0_pay7 (carried (F := Ideal) x k0_t1_loop.trips).1 (ix1 j) : EReal) r
      ∧ ∀ w : BitVec 32, (k0_pay8 w (carried (F := Ideal) x k0_t1_loop.trips).1 (carried (F := Ideal) x k0_t1_loop.trips).2 (ix1 j) : EReal)
          = ((r : ℝ) : EReal) + ((w.toInt : ℝ) : EReal) * ((2048 : ℝ) : EReal) := by
  rw [trips_eq]
  generalize hp : carried (F := Ideal) x 256 = p
  have hl := fun s : Fin 8 => carried_first x s j 256 le_rfl
  rw [hp] at hl
  choose r hr hw hf using hl
  have hlt : ∀ s, 8 * r s + s.val < 2048 := fun s => by
    have := ((hf s).attained (by decide)).1; have := s.isLt; omega
  obtain ⟨hM, s₁, hs₁⟩ := maxLanes p.1 j
  have hmask : ∀ s, (masked p.1 p.2 (ix2 s j)).toInt
      = if (p.1 (ix2 s j) : EReal) = k0_pay7 p.1 (ix1 j) then ((8 * r s + s.val : ℕ) : ℤ) else 2048 := fun s => by
    rw [masked_apply, hw s]
    split
    · have := hlt s
      rw [← toInt_ofNat_small (hlt s).le]
      refine congrArg BitVec.toInt (BitVec.eq_of_toNat_eq ?_)
      simp only [BitVec.toNat_add, BitVec.toNat_mul, BitVec.toNat_ofNat]
      omega
    · rfl
  obtain ⟨hle, s₀, hs₀⟩ := minWords (masked p.1 p.2) j fun s => by
    rw [hmask]; have := hlt s; split <;> omega
  generalize hW : multiReductionI .minsi [0] S1024 (masked p.1 p.2) 2147483647#32 reduces_S8x1024_S1024 rfl (ix1 j) = W at hle hs₀
  have hat : (p.1 (ix2 s₀ j) : EReal) = k0_pay7 p.1 (ix1 j) := by
    by_contra hne
    have h₁ := hle s₁
    rw [hs₀, hmask, hmask, if_neg hne, if_pos hs₁] at h₁
    have := hlt s₁
    omega
  have hW' : W.toInt = ((8 * r s₀ + s₀.val : ℕ) : ℤ) := by rw [hs₀, hmask, if_pos hat]
  refine ⟨8 * r s₀ + s₀.val, hlt s₀, ?_, fun w => ?_⟩
  · refine First.combine (n := 256) (by decide) (fun (s : Fin 8) k => 8 * k + s.val) (fun s a b hab => by dsimp only; omega)
      (fun s k hk => by have := s.isLt; omega) (fun R hR => ⟨⟨R % 8, Nat.mod_lt _ (by decide)⟩, R / 8, by omega, by dsimp only; omega⟩)
      hf hM (fun s hs => ?_) ⟨s₀, hat, rfl⟩
    have h := hle s
    rw [hW', hmask, if_pos hs] at h
    exact Int.ofNat_le.1 h
  · rw [pay8_apply, hW, hW', Int.cast_natCast]

end Cert.Exchange

end
-- ==== Proof.Value.Global.lean ====
/-
# The result over all devices

Row `r` of device `c`'s block is row `2048 c + r` of the whole. Each device's pair says where its block's columns first
attain their largest values; the largest of the eight, with the least position among those that attain it, is then the
whole's.
-/
module

public import proofs.«01_k».proof.Proof.Value.Local
public import Idealize.ShloMosaic.Lib.Layout

@[expose] public section

noncomputable section

namespace Cert.Exchange

open Cert.KernelIdeal Cert.KernelIdeal.Gen Cert.First

open Idealize.ShloMosaic
open Idealize.ShloMosaic.ValueIdx
open Idealize.ShloMosaic.TcCoe

variable (m : (ℓ : Loc nD τ sig) → Buf (Elt Ideal) ℓ) (ρ : Dev nD → PrngReg)

theorem devWord_toInt (c : Dev nD) : (devWord c).toInt = (c.val : ℤ) := by revert c; decide

/-- Device `c`'s pair: its columns' largest values, and their first rows counted from row `2048 c`. -/
theorem pair_first (c : Dev nD) (j : Fin 1024) :
    ∃ r < 2048, First 2048 (colOf (xstg m ρ c) j) (pairMax m ρ c (ix3 0 0 j) : EReal) r
      ∧ (pairIdx m ρ c (ix3 0 0 j) : EReal) = (((2048 * c.val + r : ℕ) : ℝ) : EReal) := by
  obtain ⟨r, hr, hf, hi⟩ := lanes_first (xstg m ρ c) j
  refine ⟨r, hr, ?_, ?_⟩
  · rw [pairMax, k0_pay9, slab_apply]
    exact hf
  · rw [pairIdx, k0_pay10, slab_apply, hi, devWord_toInt, ← EReal.coe_mul, ← EReal.coe_add]
    congr 1
    push_cast
    ring

/-! ## What every device reads back of the gather buffer -/

theorem gathMax_apply (d : Fin 8) (j : Fin 1024) : gathMax m ρ (ix3 d 0 j) = pairMax m ρ d (ix3 0 0 j) := by
  have e : (Rect.unit (s := S8x2x1024) ![0, 0, 0] S8x1x1024.size inb_S8x2x1024_S8x1x1024_0_0_0).toLoadRect.idx (ix3 d 0 j) = ix3 d 0 j := by
    funext a
    refine Fin.ext ?_
    match a with
    | ⟨0, _⟩ => show 0 + 1 * d.val = d.val; omega
    | ⟨1, _⟩ => rfl
    | ⟨2, _⟩ => show 0 + 1 * j.val = j.val; omega
  refine Eq.trans (b := gath m ρ (ix3 d 0 j)) ?_ ?_
  · rw [gathMax, View.readAt_apply, e]
    generalize gath m ρ = g
    rfl
  · unfold gath
    rw [if_pos (show ((0 : Fin 2).val = 0) by decide)]

theorem gathIdx_apply (d : Fin 8) (j : Fin 1024) : gathIdx m ρ (ix3 d 0 j) = pairIdx m ρ d (ix3 0 0 j) := by
  have e : (Rect.unit (s := S8x2x1024) ![0, 1, 0] S8x1x1024.size inb_S8x2x1024_S8x1x1024_0_1_0).toLoadRect.idx (ix3 d 0 j) = ix3 d 1 j := by
    funext a
    refine Fin.ext ?_
    match a with
    | ⟨0, _⟩ => show 0 + 1 * d.val = d.val; omega
    | ⟨1, _⟩ => rfl
    | ⟨2, _⟩ => show 0 + 1 * j.val = j.val; omega
  refine (congrArg (gath m ρ) e).trans ?_
  unfold gath
  rw [if_neg (show ((1 : Fin 2).val ≠ 0) by decide)]

theorem squeeze_apply (v : FVec Ideal S8x1x1024 .f32) (d : Fin 8) (j : Fin 1024) :
    shapeCast S8x1024 v shapeCasts_S8x1x1024_S8x1024 (ix2 d j) = v (ix3 d 0 j) := by
  refine shapeCast_apply _ _ _ _ ?_
  simp [Shape.rowMajor_val_two, Shape.rowMajor_val_three, ix2, ix3]

/-! ## The combination -/

/-- The positions of the devices that attain the columns' largest values, `⊤` for the others. -/
def candidates (v w : FVec Ideal S8x1x1024 .f32) : FVec Ideal S8x1024 .f32 :=
  select (k0_pay14 (F := Ideal) v) (k0_pay12 (F := Ideal) w) (broadcast S8x1024 (Scalar.ofBits .f32 0x7F800000#32))

theorem candidates_apply (v w : FVec Ideal S8x1x1024 .f32) (d : Fin 8) (j : Fin 1024) :
    (candidates v w (ix2 d j) : EReal)
      = if (v (ix3 d 0 j) : EReal) = k0_pay7 (k0_pay11 v) (ix1 j) then w (ix3 d 0 j) else ⊤ := by
  rw [← squeeze_apply v d j, ← squeeze_apply w d j, ← ofBits_top, ← overLanes_apply (k0_pay7 (k0_pay11 v)) d j]
  exact select_ofBool (_ = _) _ _

/-- The least over the lanes: at most every lane's, and some lane's or `⊤`. -/
theorem minLanes (u : FVec Ideal S8x1024 .f32) (j : Fin 1024) :
    let w : EReal := multiReduction .minimumf [0] S1024 u 0x7F800000#32 reduces_S8x1024_S1024 (.inl rfl) rfl (ix1 j)
    (∀ d : Fin 8, w ≤ u (ix2 d j)) ∧ (w = ⊤ ∨ ∃ d : Fin 8, w = u (ix2 d j)) := by
  intro w
  have e : w = (Finset.univ : Finset (Fin 8)).fold min (⊤ : EReal) (fun d => u (ix2 d j)) := by
    refine (multiReduction_minimumf_eq_fold u 0x7F800000#32 reduces_S8x1024_S1024 (.inl rfl) rfl (ix1 j)).trans ?_
    refine (Shape.Reduces.fold_filter_drop_single reduces_S8x1024_S1024 _ _ u (ix1 j)).trans ?_
    rw [ofBits_top]
    exact Finset.fold_congr fun d _ => congrArg u (lift_ix j d)
  obtain ⟨h₁, -, h₃⟩ := fold_least min (id : EReal → EReal) min_choice (fun x y => ⟨min_le_left x y, min_le_right x y⟩) ⊤
    (fun d : Fin 8 => (u (ix2 d j) : EReal)) Finset.univ
  rw [← e] at h₁ h₃
  clear_value w
  simp only [id] at h₃
  exact ⟨fun d => h₃ d (Finset.mem_univ d), h₁.imp id fun ⟨d, _, h⟩ => ⟨d, h⟩⟩

theorem outMax_apply (j : Fin 1024) : outMax m ρ (ix2 0 j) = k0_pay7 (k0_pay11 (gathMax m ρ)) (ix1 j) := by
  rw [outMax, k0_pay15, row_apply]; rfl

theorem outIdx_apply (j : Fin 1024) : outIdx m ρ (ix2 0 j)
    = multiReduction .minimumf [0] S1024 (candidates (gathMax m ρ) (gathIdx m ρ)) 0x7F800000#32 reduces_S8x1024_S1024 (.inl rfl) rfl (ix1 j) := by
  rw [outIdx, k0_pay16, row_apply]; rfl

/-- The result's columns: the whole's largest value, and the first row that holds it. -/
theorem out_first (X : (⟨2, ![16384, 1024]⟩ : Shape).Idx → EReal)
    (hX : ∀ c : Dev nD, xstg m ρ c = Layout.block ⟨2, ![2048, 1024]⟩ ⟨2, ![16384, 1024]⟩ 0 8 c X) (j : Fin 1024) :
    ∃ I : ℕ, First 16384 (colOf X j) (outMax m ρ (ix2 0 j) : EReal) I ∧ (outIdx m ρ (ix2 0 j) : EReal) = ((I : ℝ) : EReal) := by
  choose r hr hf hi using fun c => pair_first m ρ c j
  have hcol : ∀ (c : Dev nD) (k : ℕ), k < 2048 → colOf (xstg m ρ c) j k = colOf X j (2048 * c.val + k) := fun c k hk => by
    have hc : c.val < 8 := c.isLt
    rw [colOf_of_lt _ _ hk, colOf_of_lt X j (by omega : 2048 * c.val + k < 16384), hX]
    refine congrArg X (Shape.idx_ext₂ ?_ rfl)
    show c.val * 2048 + k = 2048 * c.val + k
    omega
  obtain ⟨hM, c₁, hc₁⟩ := maxLanes (k0_pay11 (gathMax m ρ)) j
  have hv : ∀ d : Fin 8, k0_pay11 (gathMax m ρ) (ix2 d j) = pairMax m ρ d (ix3 0 0 j) := fun d =>
    (squeeze_apply _ d j).trans (gathMax_apply m ρ d j)
  simp only [hv] at hM hc₁
  obtain ⟨hle, hor⟩ := minLanes (candidates (gathMax m ρ) (gathIdx m ρ)) j
  rw [← outIdx_apply] at hle hor
  simp only [candidates_apply, gathMax_apply, gathIdx_apply, hi] at hle hor
  rw [← outMax_apply] at hM hc₁ hle hor
  obtain ⟨c₀, hat, hI⟩ : ∃ c₀ : Dev nD, (pairMax m ρ c₀ (ix3 0 0 j) : EReal) = outMax m ρ (ix2 0 j)
      ∧ (outIdx m ρ (ix2 0 j) : EReal) = (((2048 * c₀.val + r c₀ : ℕ) : ℝ) : EReal) := by
    have h₁ := hle c₁
    rw [if_pos hc₁] at h₁
    have hne : (outIdx m ρ (ix2 0 j) : EReal) ≠ ⊤ := ne_top_of_le_ne_top (EReal.coe_ne_top _) h₁
    rcases hor with h | ⟨c, h⟩
    · exact absurd h hne
    · by_cases hc : (pairMax m ρ c (ix3 0 0 j) : EReal) = outMax m ρ (ix2 0 j)
      · exact ⟨c, hc, h.trans (if_pos hc)⟩
      · exact absurd (h.trans (if_neg hc)) hne
  refine ⟨2048 * c₀.val + r c₀, ?_, hI⟩
  refine First.combine (n := 2048) (by decide) (fun (c : Dev nD) k => 2048 * c.val + k) (fun c a b hab => by dsimp only; omega)
    (fun c k hk => by have : c.val < 8 := c.isLt; omega)
    (fun R hR => ⟨⟨R / 2048, by show R / 2048 < 8; omega⟩, R % 2048, Nat.mod_lt _ (by decide), by dsimp only; omega⟩)
    (fun c => (hf c).congr (hcol c)) hM (fun c hc => ?_) ⟨c₀, hat, rfl⟩
  have h := hle c
  rw [if_pos hc, hI] at h
  exact Nat.cast_le.1 (EReal.coe_le_coe_iff.1 h)

end Cert.Exchange

end
-- ==== Proof.Value.RefValue.lean ====
/- What the reference's two reductions compute over the extended reals: of each column, the largest value and the first
   row that holds it. -/
module

public import proofs.«01_k».proof.Proof.Value.Reference
public import proofs.«01_k».proof.Proof.Value.Local
public import Idealize.ShloMosaic.Lib.Pipeline.Value

@[expose] public section

noncomputable section

namespace Cert.ReferenceIdeal.Value

open Cert.ReferenceIdeal Cert.ReferenceIdeal.Gen Idealize.ShloMosaic
open Idealize.ShloMosaic.ValueIdx
open Cert.First Cert.Exchange

/-- The reductions' shapes: the rows are folded, the columns kept. -/
theorem reduces : S16384x1024.Reduces [0] S1024 := by decide

theorem toInt_row {n : ℕ} (h : n < 16384) : (BitVec.ofNat 32 n).toInt = n := by
  rw [BitVec.toInt_eq_toNat_of_lt] <;> rw [BitVec.toNat_ofNat] <;> omega

/-- The reducer at a pair already met and a row not before it: that row is taken if its value is larger. -/
theorem reducer_apply (v y : EReal) (r n : ℕ) (hr : r ≤ n) (hn : n < 16384) :
    reducer_argmax_f32_i32 (F := Ideal) (v, BitVec.ofNat 32 r) (y, BitVec.ofNat 32 n)
      = ((if v < y then y else v : EReal), BitVec.ofNat 32 (if v < y then n else r)) := by
  have hs : IntOp.cmpi .slt (BitVec.ofNat 32 r) (BitVec.ofNat 32 n) = BitVec.ofBool (decide (r < n)) := by
    show BitVec.ofBool (BitVec.slt _ _) = _
    rw [BitVec.slt, toInt_row hn, toInt_row (hr.trans_lt hn)]
    simp
  unfold reducer_argmax_f32_i32
  simp only [hs, Ideal.cmpf_def, Ideal.cmp, IntOp.ori, IntOp.andi]
  rcases lt_trichotomy v y with h | rfl | h
  · simp [h, h.not_gt, h.ne, Scalar.select]
  · rcases hr.lt_or_eq with h' | rfl
    · simp [h', Scalar.select]
    · simp [Scalar.select]
  · simp [h, h.not_gt, h.ne', Scalar.select]

/-- The fold of the reducer over the first `n` rows. -/
theorem foldl_first (f : ℕ → EReal) : ∀ n ≤ 16384, ∃ (v : EReal) (r : ℕ), r ≤ n ∧ First n f v r
    ∧ (List.range n).foldl (fun acc k => reducer_argmax_f32_i32 (F := Ideal) acc (f k, BitVec.ofNat 32 k)) ((⊥ : EReal), 0#32)
      = (v, BitVec.ofNat 32 r)
  | 0, _ => ⟨⊥, 0, le_rfl, First.zero f, rfl⟩
  | n + 1, hn => by
    obtain ⟨v, r, hr, hf, e⟩ := foldl_first f n (by omega)
    refine ⟨_, _, ?_, hf.step, ?_⟩
    · split <;> omega
    · rw [List.range_succ, List.foldl_append, e]
      exact reducer_apply v (f n) r n hr (by omega)

/-- The pairs, column by column. -/
theorem argPair_first (x : FVec Ideal S16384x1024 .f32) (j : Fin 1024) :
    ∃ r < 16384, First 16384 (colOf x j) ((argPair x (ix1 j)).1 : EReal) r ∧ (argPair x (ix1 j)).2 = BitVec.ofNat 32 r := by
  obtain ⟨v, r, -, hf, e⟩ := foldl_first (colOf x j) 16384 le_rfl
  have ha : argPair x (ix1 j) = (v, BitVec.ofNat 32 r) := by
    rw [← e, ← ofBits_bot]
    unfold argPair
    rw [Ideal.argReduce_eq_reduce2]
    refine (reduceFold_rows reduces (reducer_argmax_f32_i32 (F := Ideal)) _ (fun i => (x i, iotaInDim S16384x1024 32 0 i)) (ix1 j)).trans ?_
    rw [← List.map_coe_finRange_eq_range, List.foldl_map]
    refine List.foldl_ext _ _ _ fun acc r _ => ?_
    rw [colOf_of_lt x j r.isLt]
    exact congrArg (reducer_argmax_f32_i32 acc) (Prod.ext (congrArg x (Shape.idx_ext₂ rfl rfl)) rfl)
  rw [ha]
  exact ⟨r, (hf.attained (by decide)).1, hf, rfl⟩

/-- A row of the result is the columns' values laid along the second axis. -/
theorem row_apply {α : Type} (v : S1024.Idx → α) (j : Fin 1024) :
    broadcastInDim S1x1024 ![1] Facts₀.bcast_S1024_S1x1024_1 v (ix2 0 j) = v (ix1 j) := by
  refine broadcastInDim_apply _ _ _ _ _ fun a => ?_
  match a with | ⟨0, _⟩ => rfl

/-- The result's row 0: the columns' largest values. -/
theorem maxRow_eq (x : FVec Ideal S16384x1024 .f32) (j : Fin 1024) {v : EReal} {r : ℕ} (h : First 16384 (colOf x j) v r) :
    (maxRow x (ix2 0 j) : EReal) = v := by
  have e : maxRow x (ix2 0 j) = (Finset.univ : Finset (Fin 16384)).fold max (⊥ : EReal) (fun k => colOf x j k.val) := by
    unfold maxRow
    rw [row_apply, Host.reduce_eq_fold_single _ _ _ _ reduces _ (ix1 j), ← ofBits_bot]
    refine Finset.fold_congr fun k _ => ?_
    rw [colOf_of_lt x j k.isLt]
    refine congrArg x ?_
    funext a
    match a with | ⟨0, _⟩ => rfl | ⟨1, _⟩ => rfl
  rw [e]
  obtain ⟨hr, hv⟩ := h.attained (by decide)
  refine le_antisymm ?_ ?_
  · exact (Finset.fold_max_le v).2 ⟨bot_le, fun k _ => h.le k.val k.isLt⟩
  · exact (Finset.le_fold_max v).2 (.inr ⟨⟨r, hr⟩, Finset.mem_univ _, hv.ge⟩)

/-- The reference's result, from a column's largest value and its first row. -/
theorem result_eq (x : FVec Ideal S16384x1024 .f32) (j : Fin 1024) {v : EReal} {r : ℕ} (h : First 16384 (colOf x j) v r) :
    (result x (ix2 0 j) : EReal) = v ∧ (result x (ix2 1 j) : EReal) = ((r : ℝ) : EReal) := by
  constructor
  · refine Eq.trans ?_ (maxRow_eq x j h)
    unfold result
    generalize maxRow x = u
    exact concatenate_pair_apply_left (t := S2x1024) 0 u (idxRow x) Facts₀.concatenates_S1x1024_S1x1024_S2x1024_d0 (ix2 0 j) rfl (ix2 0 j) fun b => by
      match b with | ⟨0, _⟩ => rfl | ⟨1, _⟩ => rfl
  · obtain ⟨r', hr', h', e⟩ := argPair_first x j
    obtain ⟨-, rfl⟩ := h.unique h' (by decide)
    have hi : (idxRow x (ix2 0 j) : EReal) = ((r : ℝ) : EReal) := by
      unfold idxRow
      rw [row_apply]
      show (((argPair x (ix1 j)).2.toInt : ℝ) : EReal) = _
      rw [e, toInt_row hr', Int.cast_natCast]
    refine Eq.trans ?_ hi
    unfold result
    generalize idxRow x = u
    refine concatenate_pair_apply_right (t := S2x1024) 0 (maxRow x) u Facts₀.concatenates_S1x1024_S1x1024_S2x1024_d0 (ix2 1 j) rfl rfl (ix2 0 j)
      (fun b hb => ?_) rfl
    match b with
    | ⟨0, _⟩ => exact absurd rfl hb
    | ⟨1, _⟩ => rfl

end Cert.ReferenceIdeal.Value

end
-- ==== Proof.Value.Equation.lean ====
/-
# The result is the reference's

Both programs return, column by column, the largest value and the first row that holds it, and these are determined.
-/
module

public import proofs.«01_k».proof.Proof.Run.Frames
public import proofs.«01_k».proof.Proof.Value.Global
public import proofs.«01_k».proof.Proof.Value.RefValue
public import proofs.«01_k».proof.Defs

@[expose] public section

noncomputable section

namespace Cert.Exchange

open Cert.KernelIdeal Cert.KernelIdeal.Gen

open Idealize.ShloMosaic Idealize.SL.Sem
open Idealize.ShloMosaic.ValueIdx
open Idealize.ShloMosaic.TcCoe

/-- If the devices hold the blocks of `X`, each ends holding the reference's result of `X`. -/
theorem outv_eq (m : (ℓ : Loc nD τ sig) → Buf (Elt Ideal) ℓ) (ρ : Dev nD → PrngReg)
    (X : (⟨2, ![16384, 1024]⟩ : Shape).Idx → EReal)
    (hX : ∀ c : Dev nD, m ((c : Thread nD τ).loc main_arg0) = Layout.block ⟨2, ![2048, 1024]⟩ ⟨2, ![16384, 1024]⟩ 0 8 c X) :
    outv m ρ = Cert.ReferenceIdeal.Value.result (F := Ideal) X := by
  funext (i : S2x1024.Idx)
  obtain ⟨I, hf, hI⟩ := out_first m ρ X (fun c => (xstg_eq m ρ c).trans (hX c)) (i 1)
  obtain ⟨h₀, h₁⟩ := Cert.ReferenceIdeal.Value.result_eq X (i 1) hf
  unfold outv
  by_cases h : (i 0).val = 0
  · have e : ix2 0 (i 1) = i := Shape.idx_ext₂ h.symm rfl
    rw [if_pos h]
    exact h₀.symm.trans (congrArg (Cert.ReferenceIdeal.Value.result (F := Ideal) X) e)
  · have e : ix2 1 (i 1) = i := Shape.idx_ext₂ (by have : (i 0).val < 2 := (i 0).isLt; show 1 = (i 0).val; omega) rfl
    rw [if_neg h, hI]
    exact h₁.symm.trans (congrArg (Cert.ReferenceIdeal.Value.result (F := Ideal) X) e)

/-- The kernel over the devices computes the reference. -/
theorem algebraic : Cert.algebraic_KernelIdeal_ReferenceIdeal := fun m g m' g' _ hX =>
  ⟨_, (θ_run defs _ _).mono (fun _ h c => ⟨(h.1 c).1.trans (outv_eq m g _ hX), (h.1 c).2⟩) (run_arrays (F := Ideal) m g),
    (θ_run Cert.ReferenceIdeal.defs _ _).mono (fun _ h => h.1 0) (Cert.ReferenceIdeal.Value.run (F := Ideal) m' g')⟩

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run.Frames
public import proofs.«01_k».proof.Proof.Value.Reference
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The reference's run keeps its argument and has no semaphore to raise. -/
theorem frame_reference : Cert.quiescent_ReferenceIdeal := fun m ρ _ =>
  (θ_run Cert.ReferenceIdeal.defs _ _).mono (fun _ h => ⟨fun c => (h.1 c).2, h.2⟩)
    (Cert.ReferenceIdeal.Value.run (F := Ideal) m ρ)

theorem claim : Cert.Claim :=
  ⟨Cert.Kernel.Gen.facts, Cert.KernelIdeal.Gen.facts, Cert.ReferenceIdeal.Gen.facts,
    Cert.Exchange.frame_kernel, Cert.Exchange.frame_kernelIdeal, frame_reference, trivial,
    Cert.Exchange.algebraic⟩

end Cert.Proof

end
